-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x32x32 : Shape := ⟨4, ![4, 768, 32, 32]⟩
abbrev S1 : Shape := ⟨1, ![1]⟩
abbrev S96x768 : Shape := ⟨2, ![96, 768]⟩
abbrev S96 : Shape := ⟨1, ![96]⟩
abbrev S288x96 : Shape := ⟨2, ![288, 96]⟩
abbrev S288 : Shape := ⟨1, ![288]⟩
abbrev S384x768 : Shape := ⟨2, ![384, 768]⟩
abbrev S384 : Shape := ⟨1, ![384]⟩
abbrev S1x384 : Shape := ⟨2, ![1, 384]⟩
abbrev S4x32x32x768 : Shape := ⟨4, ![4, 32, 32, 768]⟩
abbrev S_ : Shape := ⟨0, ![]⟩
abbrev S4x16x16x768 : Shape := ⟨4, ![4, 16, 16, 768]⟩
abbrev S4x768x16x16 : Shape := ⟨4, ![4, 768, 16, 16]⟩
abbrev S1x32x32x128 : Shape := ⟨4, ![1, 32, 32, 128]⟩
abbrev S384x128 : Shape := ⟨2, ![384, 128]⟩
abbrev S1x16x16x768 : Shape := ⟨4, ![1, 16, 16, 768]⟩
abbrev S6x256x128 : Shape := ⟨3, ![6, 256, 128]⟩
abbrev S1x16x16x128 : Shape := ⟨4, ![1, 16, 16, 128]⟩
abbrev S16x16x128 : Shape := ⟨3, ![16, 16, 128]⟩
abbrev S256x128 : Shape := ⟨2, ![256, 128]⟩
abbrev S1x256x128 : Shape := ⟨3, ![1, 256, 128]⟩
abbrev S128 : Shape := ⟨1, ![128]⟩
abbrev S1x128 : Shape := ⟨2, ![1, 128]⟩
abbrev S1x1 : Shape := ⟨2, ![1, 1]⟩

abbrev nBuf : Space → Nat
  | .hbm => 22
  | .vmem => 12
  | .smem => 2
  | _ => 0

abbrev bufTy : (tb : Table) → Fin (tcTables nBuf tb) → BufTy
  | .hbm, ⟨0, _⟩ => ⟨S4x768x32x32, .f32⟩
  | .hbm, ⟨1, _⟩ => ⟨S1, .f32⟩
  | .hbm, ⟨2, _⟩ => ⟨S96x768, .f32⟩
  | .hbm, ⟨3, _⟩ => ⟨S96, .f32⟩
  | .hbm, ⟨4, _⟩ => ⟨S288x96, .f32⟩
  | .hbm, ⟨5, _⟩ => ⟨S288, .f32⟩
  | .hbm, ⟨6, _⟩ => ⟨S384x768, .f32⟩
  | .hbm, ⟨7, _⟩ => ⟨S384, .f32⟩
  | .hbm, ⟨8, _⟩ => ⟨S1x384, .f32⟩
  | .hbm, ⟨9, _⟩ => ⟨S1, .f32⟩
  | .hbm, ⟨10, _⟩ => ⟨S4x32x32x768, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1x384, .f32⟩
  | .hbm, ⟨20, _⟩ => ⟨S4x16x16x768, .f32⟩
  | .hbm, ⟨21, _⟩ => ⟨S4x768x16x16, .f32⟩
  | .local _ .vmem, ⟨0, _⟩ => ⟨S1x32x32x128, .f32⟩
  | .local _ .vmem, ⟨1, _⟩ => ⟨S1x32x32x128, .f32⟩
  | .local _ .vmem, ⟨2, _⟩ => ⟨S384x128, .f32⟩
  | .local _ .vmem, ⟨3, _⟩ => ⟨S384x128, .f32⟩
  | .local _ .vmem, ⟨4, _⟩ => ⟨S1x384, .f32⟩
  | .local _ .vmem, ⟨5, _⟩ => ⟨S1x384, .f32⟩
  | .local _ .vmem, ⟨6, _⟩ => ⟨S1x16x16x768, .f32⟩
  | .local _ .vmem, ⟨7, _⟩ => ⟨S1x16x16x768, .f32⟩
  | .local _ .vmem, ⟨8, _⟩ => ⟨S6x256x128, .f32⟩
  | .local _ .vmem, ⟨9, _⟩ => ⟨S6x256x128, .f32⟩
  | .local _ .vmem, ⟨10, _⟩ => ⟨S1x384, .f32⟩
  | .local _ .vmem, ⟨11, _⟩ => ⟨S1x384, .f32⟩
  | .local _ .smem, ⟨0, _⟩ => ⟨S1, .f32⟩
  | .local _ .smem, ⟨1, _⟩ => ⟨S1, .f32⟩
  | _, _ => ⟨S4x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_v0 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c6_i32 : BitVec 32 := 6#32
  let v1 : BitVec 1 := Scalar.cmpi .slt arg1 c6_i32
  let v2 : BitVec 32 := Scalar.extui v1
  let c0_i32 : BitVec 32 := 0#32
  let v3 : BitVec 1 := Scalar.cmpi .ne v2 c0_i32
  v3

def k0_off1 (i : grid0.Coords) : Fin 3 → Nat :=
  let arg1 : BitVec 32 := BitVec.ofNat 32 (i 1).val
  let v33 : Index := Scalar.indexCast arg1
  let c0_17 : Index := 0#32
  let c0_18 : Index := 0#32
  ![v33.toNat, 0, 0]
def k0_cond4 (i : grid0.Coords) : BitVec 1 :=
  let arg1 : BitVec 32 := BitVec.ofNat 32 (i 1).val
  let c6_i32_0 : BitVec 32 := 6#32
  let v4 : BitVec 1 := Scalar.cmpi .eq arg1 c6_i32_0
  let v5 : BitVec 32 := Scalar.extui v4
  let c0_i32_1 : BitVec 32 := 0#32
  let v6 : BitVec 1 := Scalar.cmpi .ne v5 c0_i32_1
  v6

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![arg0.toNat, c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x16x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x768x32x32 : Shape := ⟨4, ![4, 768, 32, 32]⟩
abbrev S1 : Shape := ⟨1, ![1]⟩
abbrev S96x768 : Shape := ⟨2, ![96, 768]⟩
abbrev S96 : Shape := ⟨1, ![96]⟩
abbrev S288x96 : Shape := ⟨2, ![288, 96]⟩
abbrev S288 : Shape := ⟨1, ![288]⟩
abbrev S384x768 : Shape := ⟨2, ![384, 768]⟩
abbrev S384 : Shape := ⟨1, ![384]⟩
abbrev S1x384 : Shape := ⟨2, ![1, 384]⟩
abbrev S_ : Shape := ⟨0, ![]⟩
abbrev S4x768x16x16 : Shape := ⟨4, ![4, 768, 16, 16]⟩
abbrev S4x1x768x16x16 : Shape := ⟨5, ![4, 1, 768, 16, 16]⟩
abbrev S4x2x768x16x16 : Shape := ⟨5, ![4, 2, 768, 16, 16]⟩
abbrev S8x768x16x16 : Shape := ⟨4, ![8, 768, 16, 16]⟩
abbrev S96x8x16x16 : Shape := ⟨4, ![96, 8, 16, 16]⟩
abbrev S8x96x16x16 : Shape := ⟨4, ![8, 96, 16, 16]⟩
abbrev S1x96x1x1 : Shape := ⟨4, ![1, 96, 1, 1]⟩
abbrev S8x96x256 : Shape := ⟨3, ![8, 96, 256]⟩
abbrev S8x256x96 : Shape := ⟨3, ![8, 256, 96]⟩
abbrev S96x288 : Shape := ⟨2, ![96, 288]⟩
abbrev S8x256x288 : Shape := ⟨3, ![8, 256, 288]⟩
abbrev S1x1x288 : Shape := ⟨3, ![1, 1, 288]⟩
abbrev S8x256x3x96 : Shape := ⟨4, ![8, 256, 3, 96]⟩
abbrev S3x8x256x96 : Shape := ⟨4, ![3, 8, 256, 96]⟩
abbrev S1x8x256x96 : Shape := ⟨4, ![1, 8, 256, 96]⟩
abbrev S8x256x256 : Shape := ⟨3, ![8, 256, 256]⟩
abbrev S8x256x192 : Shape := ⟨3, ![8, 256, 192]⟩
abbrev S8x256 : Shape := ⟨2, ![8, 256]⟩
abbrev S8x256x1 : Shape := ⟨3, ![8, 256, 1]⟩
abbrev S8 : Shape := ⟨1, ![8]⟩
abbrev S8x1x1 : Shape := ⟨3, ![8, 1, 1]⟩
abbrev S8x256x192x1 : Shape := ⟨4, ![8, 256, 192, 1]⟩
abbrev S8x256x192x2 : Shape := ⟨4, ![8, 256, 192, 2]⟩
abbrev S8x256x192x96 : Shape := ⟨4, ![8, 256, 192, 96]⟩
abbrev S768x8x16x16 : Shape := ⟨4, ![768, 8, 16, 16]⟩
abbrev S8x768 : Shape := ⟨2, ![8, 768]⟩
abbrev S768x384 : Shape := ⟨2, ![768, 384]⟩
abbrev S8x384 : Shape := ⟨2, ![8, 384]⟩
abbrev S384x1 : Shape := ⟨2, ![384, 1]⟩
abbrev S8x1 : Shape := ⟨2, ![8, 1]⟩
abbrev S1x1 : Shape := ⟨2, ![1, 1]⟩
abbrev S8x1x1x1 : Shape := ⟨4, ![8, 1, 1, 1]⟩

abbrev nBuf : Space → Nat
  | .hbm => 155
  | .vmem => 0
  | .smem => 0
  | _ => 0

abbrev hbmTy0_0 (i : Nat) : BufTy := match i % 128 with
  | 0 => ⟨S4x768x32x32, .f32⟩
  | 1 => ⟨S1, .f32⟩
  | 2 => ⟨S96x768, .f32⟩
  | 3 => ⟨S96, .f32⟩
  | 4 => ⟨S288x96, .f32⟩
  | 5 => ⟨S288, .f32⟩
  | 6 => ⟨S384x768, .f32⟩
  | 7 => ⟨S384, .f32⟩
  | 8 => ⟨S1x384, .f32⟩
  | 9 => ⟨S1, .f32⟩
  | 10 => ⟨S_, .f32⟩
  | 11 => ⟨S_, .f32⟩
  | 12 => ⟨S4x768x16x16, .f32⟩
  | 13 => ⟨S_, .f32⟩
  | 14 => ⟨S_, .f32⟩
  | 15 => ⟨S4x768x16x16, .f32⟩
  | 16 => ⟨S_, .f32⟩
  | 17 => ⟨S4x768x16x16, .f32⟩
  | 18 => ⟨S4x768x16x16, .f32⟩
  | 19 => ⟨S1, .f32⟩
  | 20 => ⟨S1, .f32⟩
  | 21 => ⟨S_, .f32⟩
  | 22 => ⟨S1, .f32⟩
  | 23 => ⟨S1, .f32⟩
  | 24 => ⟨S_, .f32⟩
  | 25 => ⟨S1, .f32⟩
  | 26 => ⟨S1, .f32⟩
  | 27 => ⟨S_, .f32⟩
  | 28 => ⟨S4x768x16x16, .f32⟩
  | 29 => ⟨S4x768x16x16, .f32⟩
  | 30 => ⟨S4x768x16x16, .f32⟩
  | 31 => ⟨S4x768x16x16, .f32⟩
  | 32 => ⟨S4x768x16x16, .f32⟩
  | 33 => ⟨S4x768x16x16, .f32⟩
  | 34 => ⟨S4x768x16x16, .f32⟩
  | 35 => ⟨S4x768x16x16, .f32⟩
  | 36 => ⟨S4x1x768x16x16, .f32⟩
  | 37 => ⟨S4x1x768x16x16, .f32⟩
  | 38 => ⟨S4x2x768x16x16, .f32⟩
  | 39 => ⟨S8x768x16x16, .f32⟩
  | 40 => ⟨S96x8x16x16, .f32⟩
  | 41 => ⟨S8x96x16x16, .f32⟩
  | 42 => ⟨S1x96x1x1, .f32⟩
  | 43 => ⟨S8x96x16x16, .f32⟩
  | 44 => ⟨S8x96x16x16, .f32⟩
  | 45 => ⟨S8x96x256, .f32⟩
  | 46 => ⟨S8x256x96, .f32⟩
  | 47 => ⟨S96x288, .f32⟩
  | 48 => ⟨S8x256x288, .f32⟩
  | 49 => ⟨S1x1x288, .f32⟩
  | 50 => ⟨S8x256x288, .f32⟩
  | 51 => ⟨S8x256x288, .f32⟩
  | 52 => ⟨S8x256x3x96, .f32⟩
  | 53 => ⟨S3x8x256x96, .f32⟩
  | 54 => ⟨S1x8x256x96, .f32⟩
  | 55 => ⟨S8x256x96, .f32⟩
  | 56 => ⟨S1x8x256x96, .f32⟩
  | 57 => ⟨S8x256x96, .f32⟩
  | 58 => ⟨S1x8x256x96, .f32⟩
  | 59 => ⟨S8x256x96, .f32⟩
  | 60 => ⟨S8x96x256, .f32⟩
  | 61 => ⟨S8x256x256, .f32⟩
  | 62 => ⟨S_, .f32⟩
  | 63 => ⟨S8x256x256, .f32⟩
  | 64 => ⟨S8x256x256, .f32⟩
  | 65 => ⟨S8x256x256, .i1⟩
  | 66 => ⟨S_, .f32⟩
  | 67 => ⟨S_, .f32⟩
  | 68 => ⟨S8x256x256, .f32⟩
  | 69 => ⟨S8x256x256, .f32⟩
  | 70 => ⟨S8x256x192, .f32⟩
  | 71 => ⟨S8x256x192, .i32⟩
  | 72 => ⟨S_, .f32⟩
  | 73 => ⟨S8x256, .f32⟩
  | 74 => ⟨S_, .f32⟩
  | 75 => ⟨S8x256, .f32⟩
  | 76 => ⟨S8x256, .f32⟩
  | 77 => ⟨S8x256x1, .f32⟩
  | 78 => ⟨S8x256x192, .f32⟩
  | 79 => ⟨S8x256x192, .f32⟩
  | 80 => ⟨S8x256x192, .f32⟩
  | 81 => ⟨S_, .f32⟩
  | 82 => ⟨S8x256, .f32⟩
  | 83 => ⟨S8x256x1, .f32⟩
  | 84 => ⟨S8x256x192, .f32⟩
  | 85 => ⟨S8x256x192, .f32⟩
  | 86 => ⟨S8, .i32⟩
  | 87 => ⟨S8x1x1, .i32⟩
  | 88 => ⟨S_, .i32⟩
  | 89 => ⟨S8x1x1, .i32⟩
  | 90 => ⟨S8x1x1, .i1⟩
  | 91 => ⟨S_, .i32⟩
  | 92 => ⟨S8x1x1, .i32⟩
  | 93 => ⟨S8x1x1, .i32⟩
  | 94 => ⟨S8x1x1, .i32⟩
  | 95 => ⟨S_, .i32⟩
  | 96 => ⟨S8x256x192, .i32⟩
  | 97 => ⟨S8x256x192, .i1⟩
  | 98 => ⟨S_, .i32⟩
  | 99 => ⟨S8x256x192, .i32⟩
  | 100 => ⟨S8x256x192, .i32⟩
  | 101 => ⟨S8x256x192, .i32⟩
  | 102 => ⟨S8x256x192, .i32⟩
  | 103 => ⟨S8x256x192x1, .i32⟩
  | 104 => ⟨S8x256x192x1, .i32⟩
  | 105 => ⟨S8x256x192x2, .i32⟩
  | 106 => ⟨S8x256x192x96, .f32⟩
  | 107 => ⟨S8x256x192x1, .f32⟩
  | 108 => ⟨S8x256x192x96, .f32⟩
  | 109 => ⟨S8x256x192x96, .f32⟩
  | 110 => ⟨S_, .f32⟩
  | 111 => ⟨S8x256x96, .f32⟩
  | 112 => ⟨S8x96x256, .f32⟩
  | 113 => ⟨S8x96x16x16, .f32⟩
  | 114 => ⟨S768x8x16x16, .f32⟩
  | 115 => ⟨S8x768x16x16, .f32⟩
  | 116 => ⟨S_, .f32⟩
  | 117 => ⟨S8x768, .f32⟩
  | 118 => ⟨S_, .f32⟩
  | 119 => ⟨S8x768, .f32⟩
  | 120 => ⟨S8x768, .f32⟩
  | 121 => ⟨S768x384, .f32⟩
  | 122 => ⟨S8x384, .f32⟩
  | 123 => ⟨S1x384, .f32⟩
  | 124 => ⟨S8x384, .f32⟩
  | 125 => ⟨S8x384, .f32⟩
  | 126 => ⟨S_, .f32⟩
  | 127 => ⟨S8x384, .f32⟩
  | _ => ⟨S4x768x32x32, .f32⟩

abbrev hbmTy0_1 (i : Nat) : BufTy := match i % 128 with
  | 0 => ⟨S8x384, .f32⟩
  | 1 => ⟨S384x1, .f32⟩
  | 2 => ⟨S8x1, .f32⟩
  | 3 => ⟨S1x1, .f32⟩
  | 4 => ⟨S8x1, .f32⟩
  | 5 => ⟨S8x1, .f32⟩
  | 6 => ⟨S8x1, .f32⟩
  | 7 => ⟨S8x1, .f32⟩
  | 8 => ⟨S_, .f32⟩
  | 9 => ⟨S8x1, .f32⟩
  | 10 => ⟨S8x1, .f32⟩
  | 11 => ⟨S_, .f32⟩
  | 12 => ⟨S8x1, .f32⟩
  | 13 => ⟨S8x1, .f32⟩
  | 14 => ⟨S_, .f32⟩
  | 15 => ⟨S8x1, .f32⟩
  | 16 => ⟨S8x1, .i1⟩
  | 17 => ⟨S8x1, .f32⟩
  | 18 => ⟨S8x1x1x1, .f32⟩
  | 19 => ⟨S8x768x16x16, .f32⟩
  | 20 => ⟨S8x768x16x16, .f32⟩
  | 21 => ⟨S4x2x768x16x16, .f32⟩
  | 22 => ⟨S4x1x768x16x16, .f32⟩
  | 23 => ⟨S4x768x16x16, .f32⟩
  | 24 => ⟨S4x1x768x16x16, .f32⟩
  | 25 => ⟨S4x768x16x16, .f32⟩
  | 26 => ⟨S4x768x16x16, .f32⟩
  | _ => ⟨S4x768x32x32, .f32⟩

abbrev hbmTy (i : Nat) : BufTy := match i / 128 with
  | 0 => hbmTy0_0 i
  | 1 => hbmTy0_1 i
  | _ => ⟨S4x768x32x32, .f32⟩

abbrev bufTy : (tb : Table) → Fin (tcTables nBuf tb) → BufTy
  | .hbm, ⟨i, _⟩ => hbmTy i
  | _, _ => ⟨S4x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_v50 : Ref sig .tc := ⟨.hbm, 69, rfl⟩
abbrev main_values : Ref sig .tc := ⟨.hbm, 70, rfl⟩
abbrev main_indices : Ref sig .tc := ⟨.hbm, 71, rfl⟩
abbrev main_cst_6 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_v65 : Ref sig .tc := ⟨.hbm, 90, rfl⟩
abbrev main_c_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_10 : Ref sig .tc := ⟨.hbm, 95, rfl⟩
abbrev main_v69 : Ref sig .tc := ⟨.hbm, 96, rfl⟩
abbrev main_v70 : Ref sig .tc := ⟨.hbm, 97, rfl⟩
abbrev main_c_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call1_cst : Ref sig .tc := ⟨.hbm, 126, rfl⟩
abbrev main_call1_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_15 : Ref sig .tc := ⟨.hbm, 136, rfl⟩
abbrev main_v103 : Ref sig .tc := ⟨.hbm, 137, rfl⟩
abbrev main_v104 : Ref sig .tc := ⟨.hbm, 138, rfl⟩
abbrev main_cst_16 : Ref sig .tc := ⟨.hbm, 139, rfl⟩
abbrev main_v105 : Ref sig .tc := ⟨.hbm, 140, rfl⟩
abbrev main_v106 : Ref sig .tc := ⟨.hbm, 141, rfl⟩
abbrev main_cst_17 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]
-- ==== Proof.Setup.lean ====
module

public import proofs.«01_k».proof.Proof.Gen.KernelIdeal.Frame
public import proofs.«01_k».proof.Proof.Gen.KernelIdeal.Skeleton

/-! The branch conditions of the kernel body in closed form over the 28 grid points, and names for the
staging buffers and scratch buffers the body is called with. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 5 — decided over the grid. -/
theorem hcond0_0 : ∀ t : Fin cfg0.N, cond0_0 (grid0.coords t) ↔ t.val % 7 ≤ 5 :=
  (by decide +kernel : ∀ t : Fin grid0.N, cond0_0 (grid0.coords t) ↔ t.val % 7 ≤ 5)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_1 : ∀ t : Fin cfg0.N, cond0_1 (grid0.coords t) ↔ t.val % 7 = 0 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_1, e0, e1]
    word_cmp
   : ∀ t : Fin grid0.N, cond0_1 (grid0.coords t) ↔ t.val % 7 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 7 :=
  (by decide +kernel : ∀ t : Fin grid0.N, cond0_2 (grid0.coords t) ↔ 1 ≤ t.val % 7)

/-- The condition of the body's `scf.if` 3 (`k0_h4`), from the grid coordinates (the skeleton's scalar
    chain substituted). -/
abbrev cond0_3 (i : grid0.Coords) : Prop := k0_cond4 i = 1#1
/-- It holds at the points ≡ 6 (mod 7) — by arithmetic of the point. -/
theorem hcond0_3 : ∀ t : Fin cfg0.N, cond0_3 (grid0.coords t) ↔ t.val % 7 = 6 :=
  (fun t => by
    have ht : t.val < 28 := Nat.lt_of_lt_of_eq t.isLt N_0
    have e0 : (grid0.coords t 0).val = t.val / 7 % 4 := Pipeline.Grid.coords_val t 0 (by decide) rfl
    have e1 : (grid0.coords t 1).val = t.val / 1 % 7 := Pipeline.Grid.coords_val t 1 (by decide) rfl
    simp only [cond0_3, k0_cond4, e0, e1]
    word_cmp
   : ∀ t : Fin grid0.N, cond0_3 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x16x768 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S6x256x128 .f32 := Memref.whole cc0_scratch0
abbrev scM0_1 : Memref sig .tc .vmem S6x256x128 .f32 := Memref.whole cc0_scratch1
abbrev scM0_2 : Memref sig .tc .vmem S1x384 .f32 := Memref.whole cc0_scratch2
abbrev scM0_3 : Memref sig .tc .vmem S1x384 .f32 := Memref.whole cc0_scratch3
/-- The scratch `arg11` the kernel carries between points, as a view: what it holds is stated through it. -/
abbrev VS0_2 : View sig .tc .vmem S1x384 .f32 := scM0_2.view
/-- The scratch `arg12` the kernel carries between points, as a view: what it holds is stated through it. -/
abbrev VS0_3 : View sig .tc .vmem S1x384 .f32 := scM0_3.view

/-- The invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.RunA.lean ====
module

public import proofs.«01_k».proof.Proof.Setup

/-! The kernel body run through, case A. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg2 : Memref sig .tc .smem S1 .f32) (harg2 : arg2.IsWhole)
  (arg3 : Memref sig .tc .vmem S1x32x32x128 .f32) (harg3 : arg3.IsWhole)
  (arg4 : Memref sig .tc .vmem S384x128 .f32) (harg4 : arg4.IsWhole)
  (arg5 : Memref sig .tc .vmem S1x384 .f32) (harg5 : arg5.IsWhole)
  (arg6 : Memref sig .tc .vmem S1x384 .f32) (harg6 : arg6.IsWhole)
  (arg7 : Memref sig .tc .smem S1 .f32) (harg7 : arg7.IsWhole)
  (arg8 : Memref sig .tc .vmem S1x16x16x768 .f32) (harg8 : arg8.IsWhole)
  (arg9 : Memref sig .tc .vmem S6x256x128 .f32) (harg9 : arg9.IsWhole)
  (arg10 : Memref sig .tc .vmem S6x256x128 .f32) (harg10 : arg10.IsWhole)
  (arg11 : Memref sig .tc .vmem S1x384 .f32) (harg11 : arg11.IsWhole)
  (arg12 : Memref sig .tc .vmem S1x384 .f32) (harg12 : arg12.IsWhole)
  (x0 : Vec F S1 .f32) (x1 : Vec F S1x32x32x128 .f32) (x2 : Vec F S384x128 .f32) (x3 : Vec F S1x384 .f32)
  (x4 : Vec F S1x384 .f32) (x5 : Vec F S1 .f32) (d9 d10 : Vec F S6x256x128 .f32)
  (d11 d12 : Vec F S1x384 .f32)

variable (d8 : Vec F S1x16x16x768 .f32)

set_option maxHeartbeats 4000000 in
/-- The run of the body at the first chunk of a sample: both pooled chunks are stored into their slab and the two accumulators are set.
    The pieces stored are what the run finds. -/
noncomputable def runA (hc0 : cond0_0 i) (hc1 : cond0_1 i) (hc2 : ¬cond0_2 i) (hc3 : ¬cond0_3 i) :
    Σ' (L9 : List (View.Piece (Elt F) S6x256x128 .f32)) (L10 : List (View.Piece (Elt F) S6x256x128 .f32))
      (L11 : List (View.Piece (Elt F) S1x384 .f32)), { L12 : List (View.Piece (Elt F) S1x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10) ∗ (arg11.view.loc (c : Thread nD τ) ↦[arg11.view.set]{fullShare} arg11.view.writes (Elt F) (harg11.unread d11) L11) ∗ (arg12.view.loc (c : Thread nD τ) ↦[arg12.view.set]{fullShare} arg12.view.writes (Elt F) (harg12.unread d12) L12)) -∗ K ⟨⟩))
          ⊢ wp frame (wpE (defs₀ (F := F)) Variants.none c none) E (cc0__pool_gate_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__pool_gate_kernel_eq_skeleton]; unfold cc0__pool_gate_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    iexact H12

end Cert.KernelIdeal.Hand

end
-- ==== Proof.RunB.lean ====
module

public import proofs.«01_k».proof.Proof.RunA

/-! The kernel body run through, case B. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg2 : Memref sig .tc .smem S1 .f32) (harg2 : arg2.IsWhole)
  (arg3 : Memref sig .tc .vmem S1x32x32x128 .f32) (harg3 : arg3.IsWhole)
  (arg4 : Memref sig .tc .vmem S384x128 .f32) (harg4 : arg4.IsWhole)
  (arg5 : Memref sig .tc .vmem S1x384 .f32) (harg5 : arg5.IsWhole)
  (arg6 : Memref sig .tc .vmem S1x384 .f32) (harg6 : arg6.IsWhole)
  (arg7 : Memref sig .tc .smem S1 .f32) (harg7 : arg7.IsWhole)
  (arg8 : Memref sig .tc .vmem S1x16x16x768 .f32) (harg8 : arg8.IsWhole)
  (arg9 : Memref sig .tc .vmem S6x256x128 .f32) (harg9 : arg9.IsWhole)
  (arg10 : Memref sig .tc .vmem S6x256x128 .f32) (harg10 : arg10.IsWhole)
  (arg11 : Memref sig .tc .vmem S1x384 .f32) (harg11 : arg11.IsWhole)
  (arg12 : Memref sig .tc .vmem S1x384 .f32) (harg12 : arg12.IsWhole)
  (x0 : Vec F S1 .f32) (x1 : Vec F S1x32x32x128 .f32) (x2 : Vec F S384x128 .f32) (x3 : Vec F S1x384 .f32)
  (x4 : Vec F S1x384 .f32) (x5 : Vec F S1 .f32) (d9 d10 : Vec F S6x256x128 .f32)
  (d11 d12 : Vec F S1x384 .f32)

variable (d8 : Vec F S1x16x16x768 .f32)

set_option maxHeartbeats 4000000 in
/-- The run of the body at a later chunk: both pooled chunks are stored into their slab and the two accumulators are added to.
    The pieces stored are what the run finds. -/
noncomputable def runB (hc0 : cond0_0 i) (hc1 : ¬cond0_1 i) (hc2 : cond0_2 i) (hc3 : ¬cond0_3 i) :
    Σ' (L9 : List (View.Piece (Elt F) S6x256x128 .f32)) (L10 : List (View.Piece (Elt F) S6x256x128 .f32))
      (L11 : List (View.Piece (Elt F) S1x384 .f32)), { L12 : List (View.Piece (Elt F) S1x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (arg9.view.loc (c : Thread nD τ) ↦[arg9.view.set]{fullShare} arg9.view.writes (Elt F) (harg9.unread d9) L9) ∗ (arg10.view.loc (c : Thread nD τ) ↦[arg10.view.set]{fullShare} arg10.view.writes (Elt F) (harg10.unread d10) L10) ∗ (arg11.view.loc (c : Thread nD τ) ↦[arg11.view.set]{fullShare} arg11.view.writes (Elt F) (harg11.unread d11) L11) ∗ (arg12.view.loc (c : Thread nD τ) ↦[arg12.view.set]{fullShare} arg12.view.writes (Elt F) (harg12.unread d12) L12)) -∗ K ⟨⟩))
          ⊢ wp frame (wpE (defs₀ (F := F)) Variants.none c none) E (cc0__pool_gate_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__pool_gate_kernel_eq_skeleton]; unfold cc0__pool_gate_kernel_skel
    simp only [k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H10]
    · iexact H10
    isplitl [H11]
    · iexact H11
    iexact H12

end Cert.KernelIdeal.Hand

end
-- ==== Proof.RunC.lean ====
module

public import proofs.«01_k».proof.Proof.RunB

/-! The kernel body run through, case C. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords)
  (arg2 : Memref sig .tc .smem S1 .f32) (harg2 : arg2.IsWhole)
  (arg3 : Memref sig .tc .vmem S1x32x32x128 .f32) (harg3 : arg3.IsWhole)
  (arg4 : Memref sig .tc .vmem S384x128 .f32) (harg4 : arg4.IsWhole)
  (arg5 : Memref sig .tc .vmem S1x384 .f32) (harg5 : arg5.IsWhole)
  (arg6 : Memref sig .tc .vmem S1x384 .f32) (harg6 : arg6.IsWhole)
  (arg7 : Memref sig .tc .smem S1 .f32) (harg7 : arg7.IsWhole)
  (arg8 : Memref sig .tc .vmem S1x16x16x768 .f32) (harg8 : arg8.IsWhole)
  (arg9 : Memref sig .tc .vmem S6x256x128 .f32) (harg9 : arg9.IsWhole)
  (arg10 : Memref sig .tc .vmem S6x256x128 .f32) (harg10 : arg10.IsWhole)
  (arg11 : Memref sig .tc .vmem S1x384 .f32) (harg11 : arg11.IsWhole)
  (arg12 : Memref sig .tc .vmem S1x384 .f32) (harg12 : arg12.IsWhole)
  (x0 : Vec F S1 .f32) (x1 : Vec F S1x32x32x128 .f32) (x2 : Vec F S384x128 .f32) (x3 : Vec F S1x384 .f32)
  (x4 : Vec F S1x384 .f32) (x5 : Vec F S1 .f32) (d9 d10 : Vec F S6x256x128 .f32)
  (d11 d12 : Vec F S1x384 .f32)

variable (d8 : Vec F S1x16x16x768 .f32)

set_option maxHeartbeats 4000000 in
/-- The run of the body at the last point of a sample: the two gates are computed and the six blocks of the output are stored.
    The pieces stored are what the run finds. -/
noncomputable def runC (hc0 : ¬cond0_0 i) (hc3 : cond0_3 i) :
    { L8 : List (View.Piece (Elt F) S1x16x16x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread d8) L8) ∗ owns (c : Thread nD τ) arg9 fullShare d9 ∗ owns (c : Thread nD τ) arg10 fullShare d10 ∗ owns (c : Thread nD τ) arg11 fullShare d11 ∗ owns (c : Thread nD τ) arg12 fullShare d12) -∗ K ⟨⟩))
          ⊢ wp frame (wpE (defs₀ (F := F)) Variants.none c none) E (cc0__pool_gate_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__pool_gate_kernel_eq_skeleton]; unfold cc0__pool_gate_kernel_skel
    simp only [k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec (disch := first | sl_exact hc0 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Hand

end
-- ==== Proof.Body.lean ====
module

public import proofs.«01_k».proof.Proof.RunC
public import Idealize.ShloMosaic.Lib.PointwiseCore
public import Idealize.ShloMosaic.Lib.WholeRead
public import Idealize.ShloMosaic.Lib.WritesUnit

/-! What the body computes at a point, as plain functions of the contents it starts from. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The functions -/

/-- The one number of a one-element buffer. -/
def word (x : Vec F S1 .f32) : F .f32 := x (ix1 0)

/-- The pixels of even row and even column. -/
def q00 (x : Vec F S1x32x32x128 .f32) : Vec F S1x16x16x128 .f32 := fun y =>
  x ((⟨![0, 0, 0, 0], S1x16x16x128.size, ![1, 2, 2, 1], inb_S1x32x32x128_S1x16x16x128_0_0_0_0_s_1_2_2_1⟩ : LoadRect S1x32x32x128).idx y)
/-- The pixels of even row and odd column. -/
def q01 (x : Vec F S1x32x32x128 .f32) : Vec F S1x16x16x128 .f32 := fun y =>
  x ((⟨![0, 0, 1, 0], S1x16x16x128.size, ![1, 2, 2, 1], inb_S1x32x32x128_S1x16x16x128_0_0_1_0_s_1_2_2_1⟩ : LoadRect S1x32x32x128).idx y)
/-- The pixels of odd row and even column. -/
def q10 (x : Vec F S1x32x32x128 .f32) : Vec F S1x16x16x128 .f32 := fun y =>
  x ((⟨![0, 1, 0, 0], S1x16x16x128.size, ![1, 2, 2, 1], inb_S1x32x32x128_S1x16x16x128_0_1_0_0_s_1_2_2_1⟩ : LoadRect S1x32x32x128).idx y)
/-- The pixels of odd row and odd column. -/
def q11 (x : Vec F S1x32x32x128 .f32) : Vec F S1x16x16x128 .f32 := fun y =>
  x ((⟨![0, 1, 1, 0], S1x16x16x128.size, ![1, 2, 2, 1], inb_S1x32x32x128_S1x16x16x128_0_1_1_0_s_1_2_2_1⟩ : LoadRect S1x32x32x128).idx y)

/-- The first pooled chunk: the maximum of each 2 by 2 window mixed towards its mean. -/
def pool1 (x0 : Vec F S1 .f32) (x1 : Vec F S1x32x32x128 .f32) : FVec F S256x128 .f32 :=
  k0_pay14 (word x0) (q00 x1) (q01 x1) (q10 x1) (q11 x1)
/-- The second pooled chunk: the mean of each 2 by 2 window mixed towards its maximum. -/
def pool2 (x0 : Vec F S1 .f32) (x1 : Vec F S1x32x32x128 .f32) : FVec F S256x128 .f32 :=
  k0_pay15 (word x0) (q00 x1) (q01 x1) (q10 x1) (q11 x1)

/-- The gate of the first branch from the accumulated hidden layer. -/
def gate1 (x3 x4 : Vec F S1x384 .f32) (x5 : Vec F S1 .f32) (d : Vec F S1x384 .f32) : F .f32 :=
  k0_pay18 d x3 x4 (word x5)
/-- The gate of the second branch from the accumulated hidden layer. -/
def gate2 (x3 x4 : Vec F S1x384 .f32) (x5 : Vec F S1 .f32) (d : Vec F S1x384 .f32) : F .f32 :=
  k0_pay19 d x3 x4 (word x5)

/-- The output block: each pooled value times its gate, the larger of the two. -/
def outBlock (g1 g2 : F .f32) (d9 d10 : Vec F S6x256x128 .f32) : Vec F S1x16x16x768 .f32 := fun y =>
  FloatOps.maximumf
    (FloatOps.mulf (d9 (ix3 ⟨(y 3).val / 128, by have : (y 3).val < 768 := (y 3).isLt; omega⟩
      ⟨(y 1).val * 16 + (y 2).val, by have : (y 1).val < 16 := (y 1).isLt; have : (y 2).val < 16 := (y 2).isLt; omega⟩
      ⟨(y 3).val % 128, by omega⟩)) g1)
    (FloatOps.mulf (d10 (ix3 ⟨(y 3).val / 128, by have : (y 3).val < 768 := (y 3).isLt; omega⟩
      ⟨(y 1).val * 16 + (y 2).val, by have : (y 1).val < 16 := (y 1).isLt; have : (y 2).val < 16 := (y 2).isLt; omega⟩
      ⟨(y 3).val % 128, by omega⟩)) g2)

/-- `e` is `d` with slab `k` replaced by `p`. -/
def SlabSet (k : ℕ) (p : FVec F S256x128 .f32) (d e : Vec F S6x256x128 .f32) : Prop :=
  (∀ y : S6x256x128.Idx, (y 0).val = k → e y = p (ix2 (y 1) (y 2))) ∧ ∀ y : S6x256x128.Idx, (y 0).val ≠ k → e y = d y

/-! ## Reading what a run stored -/

theorem word_first {κ : Kind} {sp : Space} (m : Memref sig κ sp S1 .f32) (h : m.IsWhole) (x : Vec F S1 .f32)
    (inb : ∀ a, (![0] : Fin 1 → ℕ) a + S1.size a ≤ S1.size a)
    (y : (Rect.unit (s := S1) ![0] S1.size inb).toLoadRect.shape.Idx) :
    View.readAt (Elt F) m.view (Rect.unit (s := S1) ![0] S1.size inb).toLoadRect (h.unread x) y = word x := by
  rw [h.readAt_unread]
  exact congrArg x (funext fun a => Fin.ext (by
    match a with
    | ⟨0, _⟩ =>
      exact Nat.lt_one_iff.mp ((Rect.unit (s := S1) ![0] S1.size inb).toLoadRect.idx y 0).isLt))

theorem read_full2 {κ : Kind} {sp : Space} (m : Memref sig κ sp S1x384 .f32) (h : m.IsWhole) (x : Vec F S1x384 .f32)
    (inb : ∀ a, (![0, 0] : Fin 2 → ℕ) a + S1x384.size a ≤ S1x384.size a) :
    View.readAt (Elt F) m.view (Rect.unit (s := S1x384) ![0, 0] S1x384.size inb).toLoadRect (h.unread x) = x := by
  funext y
  rw [h.readAt_unread]
  exact congrArg x (funext fun a => Fin.ext (by
    match a with
    | ⟨0, _⟩ => exact (Nat.zero_add _).trans (Nat.one_mul _)
    | ⟨1, _⟩ => exact (Nat.zero_add _).trans (Nat.one_mul _)))

theorem read_fullw {κ : Kind} {sp : Space} (m : Memref sig κ sp S384x128 .f32) (h : m.IsWhole) (x : Vec F S384x128 .f32)
    (inb : ∀ a, (![0, 0] : Fin 2 → ℕ) a + S384x128.size a ≤ S384x128.size a) :
    View.readAt (Elt F) m.view (Rect.unit (s := S384x128) ![0, 0] S384x128.size inb).toLoadRect (h.unread x) = x := by
  funext y
  rw [h.readAt_unread]
  exact congrArg x (funext fun a => Fin.ext (by
    match a with
    | ⟨0, _⟩ => exact (Nat.zero_add _).trans (Nat.one_mul _)
    | ⟨1, _⟩ => exact (Nat.zero_add _).trans (Nat.one_mul _)))

theorem word_lit (x : Vec F S1 .f32) (inb : ∀ a, (![0] : Fin 1 → ℕ) a + (![1] : Fin 1 → ℕ) a ≤ S1.size a)
    (y : (Rect.unit (s := S1) ![0] ![1] inb).shape.Idx) : x ((Rect.unit (s := S1) ![0] ![1] inb).idx y) = word x :=
  congrArg x (funext fun a => Fin.ext (by
    match a with
    | ⟨0, _⟩ =>
      exact Nat.lt_one_iff.mp ((Rect.unit (s := S1) ![0] ![1] inb).idx y 0).isLt))

theorem full2 (x : Vec F S1x384 .f32) (inb : ∀ a, (![0, 0] : Fin 2 → ℕ) a + (![1, 384] : Fin 2 → ℕ) a ≤ S1x384.size a) :
    (fun y : (Rect.unit (s := S1x384) ![0, 0] ![1, 384] inb).shape.Idx => x ((Rect.unit (s := S1x384) ![0, 0] ![1, 384] inb).idx y)) = x :=
  funext fun y => congrArg x (funext fun a => Fin.ext (by
    match a with
    | ⟨0, _⟩ => exact (Nat.zero_add _).trans (Nat.one_mul _)
    | ⟨1, _⟩ => exact (Nat.zero_add _).trans (Nat.one_mul _)))

theorem fullw (x : Vec F S384x128 .f32) (inb : ∀ a, (![0, 0] : Fin 2 → ℕ) a + (![384, 128] : Fin 2 → ℕ) a ≤ S384x128.size a) :
    (fun y : (Rect.unit (s := S384x128) ![0, 0] ![384, 128] inb).shape.Idx => x ((Rect.unit (s := S384x128) ![0, 0] ![384, 128] inb).idx y)) = x :=
  funext fun y => congrArg x (funext fun a => Fin.ext (by
    match a with
    | ⟨0, _⟩ => exact (Nat.zero_add _).trans (Nat.one_mul _)
    | ⟨1, _⟩ => exact (Nat.zero_add _).trans (Nat.one_mul _)))

theorem read_rect {κ : Kind} {sp : Space} {s : Shape} (m : Memref sig κ sp s .f32) (h : m.IsWhole) (x : Vec F s .f32) (B : LoadRect s) :
    View.readAt (Elt F) m.view B (h.unread x) = fun y => x (B.idx y) :=
  funext fun y => h.readAt_unread x B y

/-- A buffer overwritten whole reads back what was written. -/
theorem read_store_full {κ : Kind} {sp : Space} (m : Memref sig κ sp S1x384 .f32) (f : m.view.ty.Contents (Elt F)) (w : Vec F S1x384 .f32)
    (inb : ∀ a, (![0, 0] : Fin 2 → ℕ) a + S1x384.size a ≤ S1x384.size a) :
    m.view.read (Elt F) (m.view.writes (Elt F) f [⟨Rect.unit (s := S1x384) ![0, 0] S1x384.size inb, w⟩]) = w :=
  funext fun y => View.read_writes_cons_unit_of_mem m.view f inb w [] y y rfl fun a => by
    match a with
    | ⟨0, _⟩ => exact (Nat.zero_add _).symm
    | ⟨1, _⟩ => exact (Nat.zero_add _).symm

/-- A buffer of six slabs with slab `k` overwritten. -/
theorem read_store_slab {κ : Kind} {sp : Space} (m : Memref sig κ sp S6x256x128 .f32) (h : m.IsWhole) (d : Vec F S6x256x128 .f32)
    (p : FVec F S256x128 .f32) (i : grid0.Coords)
    (inb : ∀ a, k0_off1 i a + S1x256x128.size a ≤ S6x256x128.size a) :
    SlabSet (i 1).val p d (m.view.read (Elt F) (m.view.writes (Elt F) (h.unread d)
      [⟨Rect.unit (s := S6x256x128) (k0_off1 i) S1x256x128.size inb, shapeCast S1x256x128 p shapeCasts_S256x128_S1x256x128⟩])) := by
  constructor
  · intro y hy
    refine (View.read_writes_cons_unit_of_mem m.view (h.unread d) inb _ [] y (ix3 0 (y 1) (y 2)) (k0_off1_eq i) ?_).trans ?_
    · intro a
      match a with
      | ⟨0, _⟩ => exact hy
      | ⟨1, _⟩ => exact (Nat.zero_add _).symm
      | ⟨2, _⟩ => exact (Nat.zero_add _).symm
    · have e : ∀ (a : Fin 256) (b : Fin 128), shapeCast S1x256x128 p shapeCasts_S256x128_S1x256x128 (ix3 0 a b) = p (ix2 a b) := by
        intro a b; pointwise
      exact e (y 1) (y 2)
  · intro y hy
    refine (View.read_writes_cons_unit_of_not_mem m.view (h.unread d) inb _ [] y (k0_off1_eq i) 0 ?_).trans ?_
    · show (y 0).val < (i 1).val ∨ (i 1).val + 1 ≤ (y 0).val
      omega
    · exact congrFun (h.read_unread d) y

/-! ## What each run stored -/
variable (c : Dev nD) (i : grid0.Coords)
  (arg2 : Memref sig .tc .smem S1 .f32) (harg2 : arg2.IsWhole)
  (arg3 : Memref sig .tc .vmem S1x32x32x128 .f32) (harg3 : arg3.IsWhole)
  (arg4 : Memref sig .tc .vmem S384x128 .f32) (harg4 : arg4.IsWhole)
  (arg5 : Memref sig .tc .vmem S1x384 .f32) (harg5 : arg5.IsWhole)
  (arg6 : Memref sig .tc .vmem S1x384 .f32) (harg6 : arg6.IsWhole)
  (arg7 : Memref sig .tc .smem S1 .f32) (harg7 : arg7.IsWhole)
  (arg8 : Memref sig .tc .vmem S1x16x16x768 .f32) (harg8 : arg8.IsWhole)
  (arg9 : Memref sig .tc .vmem S6x256x128 .f32) (harg9 : arg9.IsWhole)
  (arg10 : Memref sig .tc .vmem S6x256x128 .f32) (harg10 : arg10.IsWhole)
  (arg11 : Memref sig .tc .vmem S1x384 .f32) (harg11 : arg11.IsWhole)
  (arg12 : Memref sig .tc .vmem S1x384 .f32) (harg12 : arg12.IsWhole)
  (x0 : Vec F S1 .f32) (x1 : Vec F S1x32x32x128 .f32) (x2 : Vec F S384x128 .f32) (x3 : Vec F S1x384 .f32)
  (x4 : Vec F S1x384 .f32) (x5 : Vec F S1 .f32) (d9 d10 : Vec F S6x256x128 .f32)
  (d11 d12 : Vec F S1x384 .f32)

variable (d8 : Vec F S1x16x16x768 .f32)

theorem runA_9 (hc0 : cond0_0 i) (hc1 : cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).1
      = [⟨Rect.unit (s := S6x256x128) (k0_off1 i) S1x256x128.size (k0_off1_inb i hc0), shapeCast S1x256x128 (pool1 x0 x1) shapeCasts_S256x128_S1x256x128⟩] := by
  unfold runA; dsimp only
  simp only [runA.sl.r, runA.sl.r_1, runA.sl.r_2, runA.sl.r_3, runA.sl.v7, runA.sl.v9, runA.sl.v11, runA.sl.v13]
  simp only [word_first, read_full2, read_fullw, read_rect]
  try simp only [full2, fullw, word_lit]
  rfl

theorem runA_10 (hc0 : cond0_0 i) (hc1 : cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.1
      = [⟨Rect.unit (s := S6x256x128) (k0_off1 i) S1x256x128.size (k0_off1_inb i hc0), shapeCast S1x256x128 (pool2 x0 x1) shapeCasts_S256x128_S1x256x128⟩] := by
  unfold runA; dsimp only
  simp only [runA.sl.r, runA.sl.r_1, runA.sl.r_2, runA.sl.r_3, runA.sl.v7, runA.sl.v9, runA.sl.v11, runA.sl.v13]
  simp only [word_first, read_full2, read_fullw, read_rect]
  try simp only [full2, fullw, word_lit]
  rfl

theorem runA_11 (hc0 : cond0_0 i) (hc1 : cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.2.1
      = [⟨Rect.unit (s := S1x384) ![0, 0] S1x384.size inb_S1x384_S1x384_0_0, k0_pay3 (pool1 x0 x1) x2⟩] := by
  unfold runA; dsimp only
  simp only [runA.sl.r, runA.sl.r_1, runA.sl.r_2, runA.sl.r_3, runA.sl.v7, runA.sl.v9, runA.sl.v11, runA.sl.v13]
  simp only [word_first, read_full2, read_fullw, read_rect]
  try simp only [full2, fullw, word_lit]
  rfl

theorem runA_12 (hc0 : cond0_0 i) (hc1 : cond0_1 i) (hc2 : ¬cond0_2 i) (hc3 : ¬cond0_3 i) :
    (runA c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.2.2.1
      = [⟨Rect.unit (s := S1x384) ![0, 0] S1x384.size inb_S1x384_S1x384_0_0, k0_pay4 (pool2 x0 x1) x2⟩] := by
  unfold runA; dsimp only
  simp only [runA.sl.r, runA.sl.r_1, runA.sl.r_2, runA.sl.r_3, runA.sl.v7, runA.sl.v9, runA.sl.v11, runA.sl.v13]
  simp only [word_first, read_full2, read_fullw, read_rect]
  try simp only [full2, fullw, word_lit]
  rfl

theorem runB_9 (hc0 : cond0_0 i) (hc1 : ¬cond0_1 i) (hc2 : cond0_2 i) (hc3 : ¬cond0_3 i) :
    (runB c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).1
      = [⟨Rect.unit (s := S6x256x128) (k0_off1 i) S1x256x128.size (k0_off1_inb i hc0), shapeCast S1x256x128 (pool1 x0 x1) shapeCasts_S256x128_S1x256x128⟩] := by
  unfold runB; dsimp only
  simp only [runB.sl.r, runB.sl.r_1, runB.sl.r_2, runB.sl.r_3, runB.sl.v7, runB.sl.v9, runB.sl.v11, runB.sl.v13]
  simp only [word_first, read_full2, read_fullw, read_rect]
  try simp only [full2, fullw, word_lit]
  rfl

theorem runB_10 (hc0 : cond0_0 i) (hc1 : ¬cond0_1 i) (hc2 : cond0_2 i) (hc3 : ¬cond0_3 i) :
    (runB c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.1
      = [⟨Rect.unit (s := S6x256x128) (k0_off1 i) S1x256x128.size (k0_off1_inb i hc0), shapeCast S1x256x128 (pool2 x0 x1) shapeCasts_S256x128_S1x256x128⟩] := by
  unfold runB; dsimp only
  simp only [runB.sl.r, runB.sl.r_1, runB.sl.r_2, runB.sl.r_3, runB.sl.v7, runB.sl.v9, runB.sl.v11, runB.sl.v13]
  simp only [word_first, read_full2, read_fullw, read_rect]
  try simp only [full2, fullw, word_lit]
  rfl

theorem runB_11 (hc0 : cond0_0 i) (hc1 : ¬cond0_1 i) (hc2 : cond0_2 i) (hc3 : ¬cond0_3 i) :
    (runB c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.2.1
      = [⟨Rect.unit (s := S1x384) ![0, 0] S1x384.size inb_S1x384_S1x384_0_0, k0_pay5 (pool1 x0 x1) x2 d11⟩] := by
  unfold runB; dsimp only
  simp only [runB.sl.r, runB.sl.r_1, runB.sl.r_2, runB.sl.r_3, runB.sl.v7, runB.sl.v9, runB.sl.v11, runB.sl.v13]
  simp only [word_first, read_full2, read_fullw, read_rect]
  try simp only [full2, fullw, word_lit]
  rfl

theorem runB_12 (hc0 : cond0_0 i) (hc1 : ¬cond0_1 i) (hc2 : cond0_2 i) (hc3 : ¬cond0_3 i) :
    (runB c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc1 hc2 hc3).2.2.2.1
      = [⟨Rect.unit (s := S1x384) ![0, 0] S1x384.size inb_S1x384_S1x384_0_0, k0_pay6 (pool2 x0 x1) x2 d12⟩] := by
  unfold runB; dsimp only
  simp only [runB.sl.r, runB.sl.r_1, runB.sl.r_2, runB.sl.r_3, runB.sl.v7, runB.sl.v9, runB.sl.v11, runB.sl.v13]
  simp only [word_first, read_full2, read_fullw, read_rect]
  try simp only [full2, fullw, word_lit]
  rfl

theorem runC_8 (hc0 : ¬cond0_0 i) (hc3 : cond0_3 i) :
    (runC c i arg2 harg2 arg3 harg3 arg4 harg4 arg5 harg5 arg6 harg6 arg7 harg7 arg8 harg8 arg9 harg9 arg10 harg10 arg11 harg11 arg12 harg12 x0 x1 x2 x3 x4 x5 d9 d10 d11 d12 d8 hc0 hc3).1
      = [⟨Rect.unit (s := S1x16x16x768) ![0, 0, 0, 640] S1x16x16x128.size inb_S1x16x16x768_S1x16x16x128_0_0_0_640, k0_pay22 (gate1 x3 x4 x5 d11) (gate2 x3 x4 x5 d12) (fun y => d9 ((Rect.unit (s := S6x256x128) ![5, 0, 0] S1x256x128.size inb_S6x256x128_S1x256x128_5_0_0).toLoadRect.idx y)) (fun y => d10 ((Rect.unit (s := S6x256x128) ![5, 0, 0] S1x256x128.size inb_S6x256x128_S1x256x128_5_0_0).toLoadRect.idx y))⟩,
        ⟨Rect.unit (s := S1x16x16x768) ![0, 0, 0, 512] S1x16x16x128.size inb_S1x16x16x768_S1x16x16x128_0_0_0_512, k0_pay22 (gate1 x3 x4 x5 d11) (gate2 x3 x4 x5 d12) (fun y => d9 ((Rect.unit (s := S6x256x128) ![4, 0, 0] S1x256x128.size inb_S6x256x128_S1x256x128_4_0_0).toLoadRect.idx y)) (fun y => d10 ((Rect.unit (s := S6x256x128) ![4, 0, 0] S1x256x128.size inb_S6x256x128_S1x256x128_4_0_0).toLoadRect.idx y))⟩,
        ⟨Rect.unit (s := S1x16x16x768) ![0, 0, 0, 384] S1x16x16x128.size inb_S1x16x16x768_S1x16x16x128_0_0_0_384, k0_pay22 (gate1 x3 x4 x5 d11) (gate2 x3 x4 x5 d12) (fun y => d9 ((Rect.unit (s := S6x256x128) ![3, 0, 0] S1x256x128.size inb_S6x256x128_S1x256x128_3_0_0).toLoadRect.idx y)) (fun y => d10 ((Rect.unit (s := S6x256x128) ![3, 0, 0] S1x256x128.size inb_S6x256x128_S1x256x128_3_0_0).toLoadRect.idx y))⟩,
        ⟨Rect.unit (s := S1x16x16x768) ![0, 0, 0, 256] S1x16x16x128.size inb_S1x16x16x768_S1x16x16x128_0_0_0_256, k0_pay22 (gate1 x3 x4 x5 d11) (gate2 x3 x4 x5 d12) (fun y => d9 ((Rect.unit (s := S6x256x128) ![2, 0, 0] S1x256x128.size inb_S6x256x128_S1x256x128_2_0_0).toLoadRect.idx y)) (fun y => d10 ((Rect.unit (s := S6x256x128) ![2, 0, 0] S1x256x128.size inb_S6x256x128_S1x256x128_2_0_0).toLoadRect.idx y))⟩,
        ⟨Rect.unit (s := S1x16x16x768) ![0, 0, 0, 128] S1x16x16x128.size inb_S1x16x16x768_S1x16x16x128_0_0_0_128, k0_pay22 (gate1 x3 x4 x5 d11) (gate2 x3 x4 x5 d12) (fun y => d9 ((Rect.unit (s := S6x256x128) ![1, 0, 0] S1x256x128.size inb_S6x256x128_S1x256x128_1_0_0).toLoadRect.idx y)) (fun y => d10 ((Rect.unit (s := S6x256x128) ![1, 0, 0] S1x256x128.size inb_S6x256x128_S1x256x128_1_0_0).toLoadRect.idx y))⟩,
        ⟨Rect.unit (s := S1x16x16x768) ![0, 0, 0, 0] S1x16x16x128.size inb_S1x16x16x768_S1x16x16x128_0_0_0_0, k0_pay22 (gate1 x3 x4 x5 d11) (gate2 x3 x4 x5 d12) (fun y => d9 ((Rect.unit (s := S6x256x128) ![0, 0, 0] S1x256x128.size inb_S6x256x128_S1x256x128_0_0_0).toLoadRect.idx y)) (fun y => d10 ((Rect.unit (s := S6x256x128) ![0, 0, 0] S1x256x128.size inb_S6x256x128_S1x256x128_0_0_0).toLoadRect.idx y))⟩] := by
  unfold runC; dsimp only
  simp only [runC.sl.r_1, runC.sl.r_2, runC.sl.r_3, runC.sl.r_4, runC.sl.r_5, runC.sl.r_6]
  simp only [word_first, read_full2, read_fullw, read_rect]
  try simp only [full2, fullw, word_lit]
  rfl

end Cert.KernelIdeal.Hand

end
-- ==== Proof.Out.lean ====
module

public import proofs.«01_k».proof.Proof.Body

/-! The output block read back after its six tiles are stored. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A tile of the output at an index, from slab `k` of the two pooled buffers. -/
theorem pay22_at (g1 g2 : F .f32) (u v : Vec F S1x256x128 .f32) (a b : Fin 16) (z : Fin 128) :
    k0_pay22 g1 g2 u v (ix4 0 a b z)
      = FloatOps.maximumf (FloatOps.mulf (u (ix3 0 ⟨a.val * 16 + b.val, by omega⟩ z)) g1)
          (FloatOps.mulf (v (ix3 0 ⟨a.val * 16 + b.val, by omega⟩ z)) g2) := by
  pointwise [k0_pay22]

/-- Tile `k` read at the local index is the output block there. -/
theorem tile_at (g1 g2 : F .f32) (d9 d10 : Vec F S6x256x128 .f32) (k : ℕ)
    (inb : ∀ a, (![k, 0, 0] : Fin 3 → ℕ) a + S1x256x128.size a ≤ S6x256x128.size a) (y : S1x16x16x768.Idx) (z : Fin 128)
    (hz : (y 3).val = 128 * k + z.val) :
    k0_pay22 g1 g2 (fun y => d9 ((Rect.unit (s := S6x256x128) ![k, 0, 0] S1x256x128.size inb).toLoadRect.idx y))
        (fun y => d10 ((Rect.unit (s := S6x256x128) ![k, 0, 0] S1x256x128.size inb).toLoadRect.idx y)) (ix4 0 (y 1) (y 2) z)
      = outBlock g1 g2 d9 d10 y := by
  have e : ∀ r : Fin 256, (Rect.unit (s := S6x256x128) ![k, 0, 0] S1x256x128.size inb).toLoadRect.idx (ix3 0 r z)
      = ix3 ⟨(y 3).val / 128, by have : (y 3).val < 768 := (y 3).isLt; omega⟩ r ⟨(y 3).val % 128, by omega⟩ := by
    intro r
    funext a
    apply Fin.ext
    match a with
    | ⟨0, _⟩ => show k + 1 * 0 = (y 3).val / 128; omega
    | ⟨1, _⟩ => show 0 + 1 * r.val = r.val; omega
    | ⟨2, _⟩ => show 0 + 1 * z.val = (y 3).val % 128; omega
  refine (pay22_at g1 g2 _ _ (y 1) (y 2) z).trans ?_
  dsimp only
  rw [e]
  rfl

/-- The output buffer after the six tiles are stored, whatever it held before. -/
theorem read_out {κ : Kind} {sp : Space} (m : Memref sig κ sp S1x16x16x768 .f32) (f : m.view.ty.Contents (Elt F))
    (g1 g2 : F .f32) (d9 d10 : Vec F S6x256x128 .f32) :
    m.view.read (Elt F) (m.view.writes (Elt F) f
      [⟨Rect.unit (s := S1x16x16x768) ![0, 0, 0, 640] S1x16x16x128.size inb_S1x16x16x768_S1x16x16x128_0_0_0_640, k0_pay22 g1 g2 (fun y => d9 ((Rect.unit (s := S6x256x128) ![5, 0, 0] S1x256x128.size inb_S6x256x128_S1x256x128_5_0_0).toLoadRect.idx y)) (fun y => d10 ((Rect.unit (s := S6x256x128) ![5, 0, 0] S1x256x128.size inb_S6x256x128_S1x256x128_5_0_0).toLoadRect.idx y))⟩,
        ⟨Rect.unit (s := S1x16x16x768) ![0, 0, 0, 512] S1x16x16x128.size inb_S1x16x16x768_S1x16x16x128_0_0_0_512, k0_pay22 g1 g2 (fun y => d9 ((Rect.unit (s := S6x256x128) ![4, 0, 0] S1x256x128.size inb_S6x256x128_S1x256x128_4_0_0).toLoadRect.idx y)) (fun y => d10 ((Rect.unit (s := S6x256x128) ![4, 0, 0] S1x256x128.size inb_S6x256x128_S1x256x128_4_0_0).toLoadRect.idx y))⟩,
        ⟨Rect.unit (s := S1x16x16x768) ![0, 0, 0, 384] S1x16x16x128.size inb_S1x16x16x768_S1x16x16x128_0_0_0_384, k0_pay22 g1 g2 (fun y => d9 ((Rect.unit (s := S6x256x128) ![3, 0, 0] S1x256x128.size inb_S6x256x128_S1x256x128_3_0_0).toLoadRect.idx y)) (fun y => d10 ((Rect.unit (s := S6x256x128) ![3, 0, 0] S1x256x128.size inb_S6x256x128_S1x256x128_3_0_0).toLoadRect.idx y))⟩,
        ⟨Rect.unit (s := S1x16x16x768) ![0, 0, 0, 256] S1x16x16x128.size inb_S1x16x16x768_S1x16x16x128_0_0_0_256, k0_pay22 g1 g2 (fun y => d9 ((Rect.unit (s := S6x256x128) ![2, 0, 0] S1x256x128.size inb_S6x256x128_S1x256x128_2_0_0).toLoadRect.idx y)) (fun y => d10 ((Rect.unit (s := S6x256x128) ![2, 0, 0] S1x256x128.size inb_S6x256x128_S1x256x128_2_0_0).toLoadRect.idx y))⟩,
        ⟨Rect.unit (s := S1x16x16x768) ![0, 0, 0, 128] S1x16x16x128.size inb_S1x16x16x768_S1x16x16x128_0_0_0_128, k0_pay22 g1 g2 (fun y => d9 ((Rect.unit (s := S6x256x128) ![1, 0, 0] S1x256x128.size inb_S6x256x128_S1x256x128_1_0_0).toLoadRect.idx y)) (fun y => d10 ((Rect.unit (s := S6x256x128) ![1, 0, 0] S1x256x128.size inb_S6x256x128_S1x256x128_1_0_0).toLoadRect.idx y))⟩,
        ⟨Rect.unit (s := S1x16x16x768) ![0, 0, 0, 0] S1x16x16x128.size inb_S1x16x16x768_S1x16x16x128_0_0_0_0, k0_pay22 g1 g2 (fun y => d9 ((Rect.unit (s := S6x256x128) ![0, 0, 0] S1x256x128.size inb_S6x256x128_S1x256x128_0_0_0).toLoadRect.idx y)) (fun y => d10 ((Rect.unit (s := S6x256x128) ![0, 0, 0] S1x256x128.size inb_S6x256x128_S1x256x128_0_0_0).toLoadRect.idx y))⟩])
      = outBlock g1 g2 d9 d10 := by
  funext y
  have hy : (y 3).val < 768 := (y 3).isLt
  by_cases h5 : 640 ≤ (y 3).val
  · refine (View.read_writes_cons_unit_of_mem m.view f _ _ _ y (ix4 0 (y 1) (y 2) ⟨(y 3).val - 640, by omega⟩) rfl ?_).trans ?_
    · intro a
      match a with
      | ⟨0, _⟩ => show (y 0).val = 0 + 0; have : (y 0).val < 1 := (y 0).isLt; omega
      | ⟨1, _⟩ => exact (Nat.zero_add _).symm
      | ⟨2, _⟩ => exact (Nat.zero_add _).symm
      | ⟨3, _⟩ => show (y 3).val = 640 + ((y 3).val - 640); omega
    · exact tile_at g1 g2 d9 d10 5 inb_S6x256x128_S1x256x128_5_0_0 y _ (by show (y 3).val = 640 + ((y 3).val - 640); omega)
  refine (View.read_writes_cons_unit_of_not_mem m.view f _ _ _ y rfl 3 (by show (y 3).val < 640 ∨ _; omega)).trans ?_
  by_cases h4 : 512 ≤ (y 3).val
  · refine (View.read_writes_cons_unit_of_mem m.view f _ _ _ y (ix4 0 (y 1) (y 2) ⟨(y 3).val - 512, by omega⟩) rfl ?_).trans ?_
    · intro a
      match a with
      | ⟨0, _⟩ => show (y 0).val = 0 + 0; have : (y 0).val < 1 := (y 0).isLt; omega
      | ⟨1, _⟩ => exact (Nat.zero_add _).symm
      | ⟨2, _⟩ => exact (Nat.zero_add _).symm
      | ⟨3, _⟩ => show (y 3).val = 512 + ((y 3).val - 512); omega
    · exact tile_at g1 g2 d9 d10 4 inb_S6x256x128_S1x256x128_4_0_0 y _ (by show (y 3).val = 512 + ((y 3).val - 512); omega)
  refine (View.read_writes_cons_unit_of_not_mem m.view f _ _ _ y rfl 3 (by show (y 3).val < 512 ∨ _; omega)).trans ?_
  by_cases h3 : 384 ≤ (y 3).val
  · refine (View.read_writes_cons_unit_of_mem m.view f _ _ _ y (ix4 0 (y 1) (y 2) ⟨(y 3).val - 384, by omega⟩) rfl ?_).trans ?_
    · intro a
      match a with
      | ⟨0, _⟩ => show (y 0).val = 0 + 0; have : (y 0).val < 1 := (y 0).isLt; omega
      | ⟨1, _⟩ => exact (Nat.zero_add _).symm
      | ⟨2, _⟩ => exact (Nat.zero_add _).symm
      | ⟨3, _⟩ => show (y 3).val = 384 + ((y 3).val - 384); omega
    · exact tile_at g1 g2 d9 d10 3 inb_S6x256x128_S1x256x128_3_0_0 y _ (by show (y 3).val = 384 + ((y 3).val - 384); omega)
  refine (View.read_writes_cons_unit_of_not_mem m.view f _ _ _ y rfl 3 (by show (y 3).val < 384 ∨ _; omega)).trans ?_
  by_cases h2 : 256 ≤ (y 3).val
  · refine (View.read_writes_cons_unit_of_mem m.view f _ _ _ y (ix4 0 (y 1) (y 2) ⟨(y 3).val - 256, by omega⟩) rfl ?_).trans ?_
    · intro a
      match a with
      | ⟨0, _⟩ => show (y 0).val = 0 + 0; have : (y 0).val < 1 := (y 0).isLt; omega
      | ⟨1, _⟩ => exact (Nat.zero_add _).symm
      | ⟨2, _⟩ => exact (Nat.zero_add _).symm
      | ⟨3, _⟩ => show (y 3).val = 256 + ((y 3).val - 256); omega
    · exact tile_at g1 g2 d9 d10 2 inb_S6x256x128_S1x256x128_2_0_0 y _ (by show (y 3).val = 256 + ((y 3).val - 256); omega)
  refine (View.read_writes_cons_unit_of_not_mem m.view f _ _ _ y rfl 3 (by show (y 3).val < 256 ∨ _; omega)).trans ?_
  by_cases h1 : 128 ≤ (y 3).val
  · refine (View.read_writes_cons_unit_of_mem m.view f _ _ _ y (ix4 0 (y 1) (y 2) ⟨(y 3).val - 128, by omega⟩) rfl ?_).trans ?_
    · intro a
      match a with
      | ⟨0, _⟩ => show (y 0).val = 0 + 0; have : (y 0).val < 1 := (y 0).isLt; omega
      | ⟨1, _⟩ => exact (Nat.zero_add _).symm
      | ⟨2, _⟩ => exact (Nat.zero_add _).symm
      | ⟨3, _⟩ => show (y 3).val = 128 + ((y 3).val - 128); omega
    · exact tile_at g1 g2 d9 d10 1 inb_S6x256x128_S1x256x128_1_0_0 y _ (by show (y 3).val = 128 + ((y 3).val - 128); omega)
  refine (View.read_writes_cons_unit_of_not_mem m.view f _ _ _ y rfl 3 (by show (y 3).val < 128 ∨ _; omega)).trans ?_
  refine (View.read_writes_cons_unit_of_mem m.view f _ _ _ y (ix4 0 (y 1) (y 2) ⟨(y 3).val - 0, by omega⟩) rfl ?_).trans ?_
  · intro a
    match a with
    | ⟨0, _⟩ => show (y 0).val = 0 + 0; have : (y 0).val < 1 := (y 0).isLt; omega
    | ⟨1, _⟩ => exact (Nat.zero_add _).symm
    | ⟨2, _⟩ => exact (Nat.zero_add _).symm
    | ⟨3, _⟩ => show (y 3).val = 0 + ((y 3).val - 0); omega
  · exact tile_at g1 g2 d9 d10 0 inb_S6x256x128_S1x256x128_0_0_0 y _ (by show (y 3).val = 0 + ((y 3).val - 0); omega)

end Cert.KernelIdeal.Hand

end
-- ==== Proof.State.lean ====
module

public import proofs.«01_k».proof.Proof.Out

/-! What the scratch holds between points, and the proof data of the pipeline. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the buffers hold, point by point -/

/-- The first pooled chunk of point `t`. -/
def pt1 (c : Dev nD) (t : Fin cfg0.N) : FVec F S256x128 .f32 := pool1 (iblk m c 0 t) (iblk m c 1 t)
/-- The second pooled chunk of point `t`. -/
def pt2 (c : Dev nD) (t : Fin cfg0.N) : FVec F S256x128 .f32 := pool2 (iblk m c 0 t) (iblk m c 1 t)

/-- The hidden layer of the first branch accumulated up to point `n` of its sample. -/
def acc1 (c : Dev nD) : (n : ℕ) → n < cfg0.N → Vec F S1x384 .f32
  | 0, h => k0_pay3 (pt1 m c ⟨0, h⟩) (iblk m c 2 ⟨0, h⟩)
  | n + 1, h =>
    if (n + 1) % 7 = 0 then k0_pay3 (pt1 m c ⟨n + 1, h⟩) (iblk m c 2 ⟨n + 1, h⟩)
    else if (n + 1) % 7 = 6 then acc1 c n (Nat.lt_of_succ_lt h)
    else k0_pay5 (pt1 m c ⟨n + 1, h⟩) (iblk m c 2 ⟨n + 1, h⟩) (acc1 c n (Nat.lt_of_succ_lt h))

/-- The hidden layer of the second branch accumulated up to point `n` of its sample. -/
def acc2 (c : Dev nD) : (n : ℕ) → n < cfg0.N → Vec F S1x384 .f32
  | 0, h => k0_pay4 (pt2 m c ⟨0, h⟩) (iblk m c 2 ⟨0, h⟩)
  | n + 1, h =>
    if (n + 1) % 7 = 0 then k0_pay4 (pt2 m c ⟨n + 1, h⟩) (iblk m c 2 ⟨n + 1, h⟩)
    else if (n + 1) % 7 = 6 then acc2 c n (Nat.lt_of_succ_lt h)
    else k0_pay6 (pt2 m c ⟨n + 1, h⟩) (iblk m c 2 ⟨n + 1, h⟩) (acc2 c n (Nat.lt_of_succ_lt h))

/-- At the first chunk of a sample the accumulator is set. -/
theorem acc1_first (c : Dev nD) (t : Fin cfg0.N) (h : t.val % 7 = 0) :
    acc1 m c t.val t.isLt = k0_pay3 (pt1 m c t) (iblk m c 2 t) := by
  obtain ⟨n, hn⟩ := t
  cases n with
  | zero => rfl
  | succ n => exact if_pos h

/-- At a later chunk the chunk's product is added. -/
theorem acc1_next (c : Dev nD) (t : Fin cfg0.N) (h : t.val % 7 ≠ 0) (h6 : t.val % 7 ≠ 6) :
    acc1 m c t.val t.isLt = k0_pay5 (pt1 m c t) (iblk m c 2 t) (acc1 m c (t.val - 1) (Nat.lt_of_le_of_lt (Nat.sub_le _ _) t.isLt)) := by
  obtain ⟨n, hn⟩ := t
  cases n with
  | zero => exact absurd (Nat.zero_mod 7) h
  | succ n => exact (if_neg h).trans (if_neg h6)

/-- At the last point of a sample it stays. -/
theorem acc1_last (c : Dev nD) (t : Fin cfg0.N) (h6 : t.val % 7 = 6) :
    acc1 m c t.val t.isLt = acc1 m c (t.val - 1) (Nat.lt_of_le_of_lt (Nat.sub_le _ _) t.isLt) := by
  obtain ⟨n, hn⟩ := t
  cases n with
  | zero => exact absurd ((Nat.zero_mod 7).symm.trans h6) (by decide)
  | succ n =>
    refine (if_neg ?_).trans (if_pos h6)
    intro h; dsimp only at h h6; omega

/-- At the first chunk of a sample the accumulator is set. -/
theorem acc2_first (c : Dev nD) (t : Fin cfg0.N) (h : t.val % 7 = 0) :
    acc2 m c t.val t.isLt = k0_pay4 (pt2 m c t) (iblk m c 2 t) := by
  obtain ⟨n, hn⟩ := t
  cases n with
  | zero => rfl
  | succ n => exact if_pos h

/-- At a later chunk the chunk's product is added. -/
theorem acc2_next (c : Dev nD) (t : Fin cfg0.N) (h : t.val % 7 ≠ 0) (h6 : t.val % 7 ≠ 6) :
    acc2 m c t.val t.isLt = k0_pay6 (pt2 m c t) (iblk m c 2 t) (acc2 m c (t.val - 1) (Nat.lt_of_le_of_lt (Nat.sub_le _ _) t.isLt)) := by
  obtain ⟨n, hn⟩ := t
  cases n with
  | zero => exact absurd (Nat.zero_mod 7) h
  | succ n => exact (if_neg h).trans (if_neg h6)

/-- At the last point of a sample it stays. -/
theorem acc2_last (c : Dev nD) (t : Fin cfg0.N) (h6 : t.val % 7 = 6) :
    acc2 m c t.val t.isLt = acc2 m c (t.val - 1) (Nat.lt_of_le_of_lt (Nat.sub_le _ _) t.isLt) := by
  obtain ⟨n, hn⟩ := t
  cases n with
  | zero => exact absurd ((Nat.zero_mod 7).symm.trans h6) (by decide)
  | succ n =>
    refine (if_neg ?_).trans (if_pos h6)
    intro h; dsimp only at h h6; omega

/-- The slabs written so far in the sample of point `n` hold that sample's pooled chunks. -/
def Held (p : Fin cfg0.N → FVec F S256x128 .f32) (n : ℕ) (d : Vec F S6x256x128 .f32) : Prop :=
  ∀ (y : S6x256x128.Idx) (t : Fin cfg0.N), t.val = 7 * (n / 7) + (y 0).val → (y 0).val ≤ n % 7 → d y = p t (ix2 (y 1) (y 2))

/-- Storing the first chunk. -/
theorem Held.first (p : Fin cfg0.N → FVec F S256x128 .f32) (t : Fin cfg0.N) (d e : Vec F S6x256x128 .f32) (h : t.val % 7 = 0)
    (hs : SlabSet (t.val % 7) (p t) d e) : Held p t.val e := by
  intro y t' ht hy
  have e0 : t' = t := Fin.ext (by omega)
  subst e0
  exact hs.1 y (by omega)

/-- Storing a later chunk. -/
theorem Held.next (p : Fin cfg0.N → FVec F S256x128 .f32) (t : Fin cfg0.N) (d e : Vec F S6x256x128 .f32) (h : t.val % 7 ≠ 0)
    (hd : Held p (t.val - 1) d) (hs : SlabSet (t.val % 7) (p t) d e) : Held p t.val e := by
  intro y t' ht hy
  by_cases hk : (y 0).val = t.val % 7
  · have e0 : t' = t := Fin.ext (by omega)
    subst e0
    exact hs.1 y hk
  · exact (hs.2 y hk).trans (hd y t' (by omega) (by omega))

/-- The last point stores no chunk. -/
theorem Held.last (p : Fin cfg0.N → FVec F S256x128 .f32) (t : Fin cfg0.N) (d : Vec F S6x256x128 .f32) (h : t.val % 7 = 6)
    (hd : Held p (t.val - 1) d) : Held p t.val d := by
  intro y t' ht hy
  have h5 : (y 0).val < 6 := (y 0).isLt
  exact hd y t' (by omega) (by omega)

/-- All six pooled chunks of the sample of point `t`. -/
def slabs (p : Fin cfg0.N → FVec F S256x128 .f32) (t : Fin cfg0.N) : Vec F S6x256x128 .f32 := fun y =>
  p ⟨7 * (t.val / 7) + (y 0).val, by
      have h5 : (y 0).val < 6 := (y 0).isLt
      have hN : cfg0.N = 28 := N_0
      have ht := t.isLt
      omega⟩ (ix2 (y 1) (y 2))

theorem Held.slabs (p : Fin cfg0.N → FVec F S256x128 .f32) (t : Fin cfg0.N) (d : Vec F S6x256x128 .f32) (h : t.val % 7 = 6)
    (hd : Held p (t.val - 1) d) : d = slabs p t := by
  funext y
  have h5 : (y 0).val < 6 := (y 0).isLt
  exact hd y _ (by dsimp only; omega) (by omega)

/-- The output block of the sample of point `t`. -/
def outAt (c : Dev nD) (t : Fin cfg0.N) : Vec F S1x16x16x768 .f32 :=
  outBlock (gate1 (iblk m c 3 t) (iblk m c 4 t) (iblk m c 5 t) (acc1 m c t.val t.isLt))
    (gate2 (iblk m c 3 t) (iblk m c 4 t) (iblk m c 5 t) (acc2 m c t.val t.isLt))
    (slabs (pt1 m c) t) (slabs (pt2 m c) t)

/-! ## The invariant and the proof data -/

/-- Before the first point the scratch holds anything; afterwards the slabs written so far and the accumulators are known. -/
def PhiS (c : Dev nD) : (n : ℕ) → n ≤ cfg0.N → sProp 𝕄
  | 0, _ => Pipeline.ΦA spec0 c
  | n + 1, hn => iprop(iprop((∃ d9, ∃ d10, ⌜Held (pt1 m c) n d9 ∧ Held (pt2 m c) n d10⌝ ∗ owns (c : Thread nD τ) scM0_0 fullShare d9 ∗ owns (c : Thread nD τ) scM0_1 fullShare d10) ∗ owns (c : Thread nD τ) scM0_2 fullShare (acc1 m c n hn) ∗ owns (c : Thread nD τ) scM0_3 fullShare (acc2 m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d9, ∃ d10, ⌜Held (pt1 m c) n d9 ∧ Held (pt2 m c) n d10⌝ ∗ owns (c : Thread nD τ) scM0_0 fullShare d9 ∗ owns (c : Thread nD τ) scM0_1 fullShare d10) ∗ owns (c : Thread nD τ) scM0_2 fullShare (acc1 m c n hn) ∗ owns (c : Thread nD τ) scM0_3 fullShare (acc2 m c n hn)) ∗ (∃ r, prngReg c r)) := rfl

theorem PhiS_pos (c : Dev nD) (n : ℕ) (h : n ≤ cfg0.N) (hz : n ≠ 0) :
    PhiS m c n h = iprop(iprop((∃ d9, ∃ d10, ⌜Held (pt1 m c) (n - 1) d9 ∧ Held (pt2 m c) (n - 1) d10⌝ ∗ owns (c : Thread nD τ) scM0_0 fullShare d9 ∗ owns (c : Thread nD τ) scM0_1 fullShare d10) ∗ owns (c : Thread nD τ) scM0_2 fullShare (acc1 m c (n - 1) (by omega)) ∗ owns (c : Thread nD τ) scM0_3 fullShare (acc2 m c (n - 1) (by omega))) ∗ (∃ r, prngReg c r)) := by
  cases n with
  | zero => exact absurd rfl hz
  | succ n => rfl

/-- The invariant at any point gives the scratch back at some contents. -/
theorem PhiS_any (c : Dev nD) (n : ℕ) (h : n ≤ cfg0.N) : PhiS m c n h ⊢ Pipeline.ΦA spec0 c := by
  by_cases hz : n = 0
  · rw [PhiS_zero m c n h hz]
    try exact Idealize.SL.BI.Entails.refl _
  · rw [PhiS_pos m c n h hz, PhiA0_eq]
    iintro ⟨⟨⟨%d9, %d10, %hh, HS0, HS1⟩, HS2, HS3⟩, Hg⟩
    isplitl [HS0 HS1 HS2 HS3]
    · isplitl [HS0]
      · iexists _; iexact HS0
      isplitl [HS1]
      · iexists _; iexact HS1
      isplitl [HS2]
      · iexists _; iexact HS2
      iexists _; iexact HS3
    iexact Hg

/-- The proof data of the pipeline: the inputs keep their blocks, the output block is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
      unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
      unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
      unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
      unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
      unfold Dat.leavesExact; rw [liveAt0_4 t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
      unfold Dat.leavesExact; rw [liveAt0_5 t], after0_5]

/-- Before the last point of a sample the output's buffer is handed back as found. -/
theorem leaves0_6_idle (c : Dev nD) (t : Fin cfg0.N) (h : t.val % 7 ≠ 6) :
    (dats m 0 c).leavesExact 6 t = iprop(∃ d, owns (c : Thread nD τ) (ms0_6 t) fullShare ((dats m 0 c).before 6 t d)) := by
  refine Dat.leavesExact_idle _ 6 t ?_ ?_
  · show (!(k0_cond4 (grid0.coords t) == 1#1)) = true
    rw [Bool.not_eq_true', beq_eq_false_iff_ne]
    exact fun e => h ((hcond0_3 t).mp e)
  · exact Bool.eq_false_iff.mpr fun e => h ((flush0_6 t).mp e)

/-- At the last point of a sample the output's buffer holds the sample's block. -/
theorem leaves0_6_last (c : Dev nD) (t : Fin cfg0.N) (h : t.val % 7 = 6) :
    (dats m 0 c).leavesExact 6 t = owns (c : Thread nD τ) (ms0_6 t) fullShare (outAt m c t) := by
  rw [show (dats m 0 c).leavesExact 6 t = owns (c : Thread nD τ) (ms0_6 t) fullShare ((dats m 0 c).after 6 t) from by
      have hi : cfg0.idle 6 (cfg0.grid.coords t) = false := by
        show (!(k0_cond4 (grid0.coords t) == 1#1)) = false
        rw [Bool.not_eq_false', beq_iff_eq]
        exact (hcond0_3 t).mpr h
      unfold Dat.leavesExact; rw [hi], after0_6]

end Cert.KernelIdeal.Hand

end
-- ==== Proof.Sound.lean ====
module

public import proofs.«01_k».proof.Proof.State
public import Idealize.ShloMosaic.Lib.Claim

/-! The body at every point, the run, and the frame. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate of point `t`. -/
theorem coord1 (t : Fin cfg0.N) : (grid0.coords t 1).val = t.val % 7 := by
  have e1 : (grid0.coords t 1).val = t.val / 1 % 7 := Pipeline.Grid.coords_val t 1 (by decide) rfl
  rw [e1, Nat.div_one]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at the first chunk of a sample. -/
theorem pointA (c : Dev nD) (t : Fin cfg0.N) (h0 : t.val % 7 = 0) :
    iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
      ⊢ wp frame (wpE (defs₀ (F := F)) Variants.none c none) Set.univ (bodyAt0 t) (fun _ => iprop(PhiS m c (t.val + 1) t.isLt ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)) := by
  unfold bodyAt0
  simp only [before0_0, before0_1, before0_2, before0_3, before0_4, before0_5]
  rw [leaves0_0, leaves0_1, leaves0_2, leaves0_3, leaves0_4, leaves0_5]
  rw [leaves0_6_idle m c t (by omega), PhiS_succ]
  rw [PhiA0_eq]
  iintro ⟨⟨⟨⟨%d9, HS0⟩, ⟨%d10, HS1⟩, ⟨%d11, HS2⟩, ⟨%d12, HS3⟩⟩, Hg⟩, Ho, ⟨%d0, H0⟩, ⟨%d1, H1⟩, ⟨%d2, H2⟩, ⟨%d3, H3⟩, ⟨%d4, H4⟩, ⟨%d5, H5⟩, ⟨%d6, H6⟩⟩
  have hs9 := read_store_slab scM0_0 (Memref.isWhole_whole _) d9 (pool1 (iblk m c 0 t) (iblk m c 1 t)) (grid0.coords t)
    (k0_off1_inb (grid0.coords t) ((hcond0_0 t).mpr (by omega)))
  rw [← runA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 d11 d12 ((dats m 0 c).before 6 t d6) ((hcond0_0 t).mpr (by omega)) ((hcond0_1 t).mpr h0) (fun h => absurd ((hcond0_2 t).mp h) (by omega)) (fun h => absurd ((hcond0_3 t).mp h) (by omega)), coord1] at hs9
  have hs10 := read_store_slab scM0_1 (Memref.isWhole_whole _) d10 (pool2 (iblk m c 0 t) (iblk m c 1 t)) (grid0.coords t)
    (k0_off1_inb (grid0.coords t) ((hcond0_0 t).mpr (by omega)))
  rw [← runA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 d11 d12 ((dats m 0 c).before 6 t d6) ((hcond0_0 t).mpr (by omega)) ((hcond0_1 t).mpr h0) (fun h => absurd ((hcond0_2 t).mp h) (by omega)) (fun h => absurd ((hcond0_3 t).mp h) (by omega)), coord1] at hs10
  have hs11 := (congrArg (fun L => scM0_2.view.read (Elt F) (scM0_2.view.writes (Elt F) ((Memref.isWhole_whole _ : scM0_2.IsWhole).unread d11) L)) (runA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 d11 d12 ((dats m 0 c).before 6 t d6) ((hcond0_0 t).mpr (by omega)) ((hcond0_1 t).mpr h0) (fun h => absurd ((hcond0_2 t).mp h) (by omega)) (fun h => absurd ((hcond0_3 t).mp h) (by omega)))).trans
    (read_store_full scM0_2 _ _ inb_S1x384_S1x384_0_0)
  have hs12 := (congrArg (fun L => scM0_3.view.read (Elt F) (scM0_3.view.writes (Elt F) ((Memref.isWhole_whole _ : scM0_3.IsWhole).unread d12) L)) (runA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 d11 d12 ((dats m 0 c).before 6 t d6) ((hcond0_0 t).mpr (by omega)) ((hcond0_1 t).mpr h0) (fun h => absurd ((hcond0_2 t).mp h) (by omega)) (fun h => absurd ((hcond0_3 t).mp h) (by omega)))).trans
    (read_store_full scM0_3 _ _ inb_S1x384_S1x384_0_0)
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 d11 d12 ((dats m 0 c).before 6 t d6) ((hcond0_0 t).mpr (by omega)) ((hcond0_1 t).mpr h0) (fun h => absurd ((hcond0_2 t).mp h) (by omega)) (fun h => absurd ((hcond0_3 t).mp h) (by omega))).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0 HS1]
      · iexists _; iexists _
        isplitr
        · ipureintro; exact ⟨Held.first _ t _ _ h0 hs9, Held.first _ t _ _ h0 hs10⟩
        isplitl [HS0]
        · unfold owns; iexists _; isplitr
          swap; · iexact HS0
          ipureintro; rfl
        unfold owns; iexists _; isplitr
        swap; · iexact HS1
        ipureintro; rfl
      isplitl [HS2]
      · unfold owns; iexists _; isplitr
        swap; · iexact HS2
        ipureintro; exact hs11.trans (acc1_first m c t h0).symm
      unfold owns; iexists _; isplitr
      swap; · iexact HS3
      ipureintro; exact hs12.trans (acc2_first m c t h0).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at a later chunk of a sample. -/
theorem pointB (c : Dev nD) (t : Fin cfg0.N) (h0 : t.val % 7 ≠ 0) (h6 : t.val % 7 ≠ 6) :
    iprop(PhiS m c t.val (Nat.le_of_lt t.isLt) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
      ⊢ wp frame (wpE (defs₀ (F := F)) Variants.none c none) Set.univ (bodyAt0 t) (fun _ => iprop(PhiS m c (t.val + 1) t.isLt ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)) := by
  unfold bodyAt0
  simp only [before0_0, before0_1, before0_2, before0_3, before0_4, before0_5]
  rw [leaves0_0, leaves0_1, leaves0_2, leaves0_3, leaves0_4, leaves0_5]
  rw [leaves0_6_idle m c t (by omega), PhiS_succ]
  rw [PhiS_pos m c _ _ (by omega)]
  iintro ⟨⟨⟨⟨%d9, %d10, %hh, HS0, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  have hs9 := read_store_slab scM0_0 (Memref.isWhole_whole _) d9 (pool1 (iblk m c 0 t) (iblk m c 1 t)) (grid0.coords t)
    (k0_off1_inb (grid0.coords t) ((hcond0_0 t).mpr (by omega)))
  rw [← runB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) ((hcond0_0 t).mpr (by omega)) (fun h => h0 ((hcond0_1 t).mp h)) ((hcond0_2 t).mpr (by omega)) (fun h => h6 ((hcond0_3 t).mp h)), coord1] at hs9
  have hs10 := read_store_slab scM0_1 (Memref.isWhole_whole _) d10 (pool2 (iblk m c 0 t) (iblk m c 1 t)) (grid0.coords t)
    (k0_off1_inb (grid0.coords t) ((hcond0_0 t).mpr (by omega)))
  rw [← runB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) ((hcond0_0 t).mpr (by omega)) (fun h => h0 ((hcond0_1 t).mp h)) ((hcond0_2 t).mpr (by omega)) (fun h => h6 ((hcond0_3 t).mp h)), coord1] at hs10
  have hs11 := (congrArg (fun L => scM0_2.view.read (Elt F) (scM0_2.view.writes (Elt F) ((Memref.isWhole_whole _ : scM0_2.IsWhole).unread (acc1 m c (t.val - 1) (Nat.lt_of_le_of_lt (Nat.sub_le _ _) t.isLt))) L)) (runB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) ((hcond0_0 t).mpr (by omega)) (fun h => h0 ((hcond0_1 t).mp h)) ((hcond0_2 t).mpr (by omega)) (fun h => h6 ((hcond0_3 t).mp h)))).trans
    (read_store_full scM0_2 _ _ inb_S1x384_S1x384_0_0)
  have hs12 := (congrArg (fun L => scM0_3.view.read (Elt F) (scM0_3.view.writes (Elt F) ((Memref.isWhole_whole _ : scM0_3.IsWhole).unread (acc2 m c (t.val - 1) (Nat.lt_of_le_of_lt (Nat.sub_le _ _) t.isLt))) L)) (runB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) ((hcond0_0 t).mpr (by omega)) (fun h => h0 ((hcond0_1 t).mp h)) ((hcond0_2 t).mpr (by omega)) (fun h => h6 ((hcond0_3 t).mp h)))).trans
    (read_store_full scM0_3 _ _ inb_S1x384_S1x384_0_0)
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) ((hcond0_0 t).mpr (by omega)) (fun h => h0 ((hcond0_1 t).mp h)) ((hcond0_2 t).mpr (by omega)) (fun h => h6 ((hcond0_3 t).mp h))).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0 HS1]
      · iexists _; iexists _
        isplitr
        · ipureintro; exact ⟨Held.next _ t _ _ h0 hh.1 hs9, Held.next _ t _ _ h0 hh.2 hs10⟩
        isplitl [HS0]
        · unfold owns; iexists _; isplitr
          swap; · iexact HS0
          ipureintro; rfl
        unfold owns; iexists _; isplitr
        swap; · iexact HS1
        ipureintro; rfl
      isplitl [HS2]
      · unfold owns; iexists _; isplitr
        swap; · iexact HS2
        ipureintro; exact hs11.trans (acc1_next m c t h0 h6).symm
      unfold owns; iexists _; isplitr
      swap; · iexact HS3
      ipureintro; exact hs12.trans (acc2_next m c t h0 h6).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- The body at the last point of a sample. -/
theorem pointC (c : Dev nD) (t : Fin cfg0.N) (h6 : t.val % 7 = 6) :
    iprop(PhiS m c t.val (Nat.le_of_lt t.isLt) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
      ⊢ wp frame (wpE (defs₀ (F := F)) Variants.none c none) Set.univ (bodyAt0 t) (fun _ => iprop(PhiS m c (t.val + 1) t.isLt ∗ (dats m 0 c).owesAt () t.castSucc
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)) := by
  unfold bodyAt0
  simp only [before0_0, before0_1, before0_2, before0_3, before0_4, before0_5]
  rw [leaves0_0, leaves0_1, leaves0_2, leaves0_3, leaves0_4, leaves0_5]
  rw [leaves0_6_last m c t h6, PhiS_succ]
  rw [PhiS_pos m c _ _ (by omega)]
  iintro ⟨⟨⟨⟨%d9, %d10, %hh, HS0, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  have hs8 := (congrArg (fun L => (ms0_6 t).view.read (Elt F) ((ms0_6 t).view.writes (Elt F) ((hs0_6 t).unread ((dats m 0 c).before 6 t d6)) L)) (runC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) (fun h => absurd ((hcond0_0 t).mp h) (by omega)) ((hcond0_3 t).mpr h6))).trans
    (read_out (ms0_6 t) _ _ _ d9 d10)
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d9 d10 (acc1 m c (t.val - 1) (Nat.lt_of_le_of_lt (Nat.sub_le _ _) t.isLt)) (acc2 m c (t.val - 1) (Nat.lt_of_le_of_lt (Nat.sub_le _ _) t.isLt)) ((dats m 0 c).before 6 t d6) (fun h => absurd ((hcond0_0 t).mp h) (by omega)) ((hcond0_3 t).mpr h6)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0 HS1]
      · iexists _; iexists _
        isplitr
        · ipureintro; exact ⟨Held.last _ t d9 h6 hh.1, Held.last _ t d10 h6 hh.2⟩
        isplitl [HS0]; · iexact HS0
        iexact HS1
      rw [acc1_last m c t h6, acc2_last m c t h6]
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  refine hs8.trans ?_
  unfold outAt
  rw [acc1_last m c t h6, acc2_last m c t h6, ← Held.slabs _ t d9 h6 hh.1, ← Held.slabs _ t d10 h6 hh.2]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.succ = PhiS m c (t.val + 1) t.isLt from rfl, PhiS_castSucc m c t]
  by_cases h0 : t.val % 7 = 0
  · exact (sep_mono_l (PhiS_any m c _ _)).trans (pointA m c t h0)
  · by_cases h6 : t.val % 7 = 6
    · exact pointC m c t h6
    · exact pointB m c t h0 h6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
set_option maxHeartbeats 800000 in
/-- The run: every array ends as the proof data says, and every counter ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Spec.lean ====
module

public import Idealize.ShloMosaic.PureOps.Ideal

/-! The mathematics of the problem over the extended reals, as plain functions: mixed 2 by 2 pooling of every
    channel, a gate per sample and branch from the channel means, the larger of the two gated branches. -/

@[expose] public section

noncomputable section

namespace Cert.Spec

open Idealize.ShloMosaic

/-- Pixel `(r, s)` of window `(i, j)` of an image. -/
def px (x : Fin 32 → Fin 32 → EReal) (i j : Fin 16) (r s : Fin 2) : EReal :=
  x ⟨2 * i.val + r.val, by omega⟩ ⟨2 * j.val + s.val, by omega⟩

/-- The largest pixel of a window. -/
def top (x : Fin 32 → Fin 32 → EReal) (i j : Fin 16) : EReal :=
  max (max (px x i j 0 0) (px x i j 0 1)) (max (px x i j 1 0) (px x i j 1 1))

/-- The mean of a window. -/
def avg (x : Fin 32 → Fin 32 → EReal) (i j : Fin 16) : EReal :=
  (px x i j 0 0 + px x i j 0 1 + px x i j 1 0 + px x i j 1 1) * ((1 / 4 : ℝ) : EReal)

/-- The logistic function. -/
def sigmoid (p : EReal) : EReal := Ideal.div 1 (1 + Ideal.exp (-p))

/-- `u` moved towards `v` by the weight `w`. -/
def mix (w u v : EReal) : EReal := u + w * (v - u)

/-- The first branch: the maximum moved towards the mean. -/
def branch1 (w : EReal) (x : Fin 32 → Fin 32 → EReal) (i j : Fin 16) : EReal := mix w (top x i j) (avg x i j)

/-- The second branch: the mean moved towards the maximum. -/
def branch2 (w : EReal) (x : Fin 32 → Fin 32 → EReal) (i j : Fin 16) : EReal := mix w (avg x i j) (top x i j)

/-- The mean of a pooled channel over its 256 places. -/
def mean (v : Fin 16 → Fin 16 → EReal) : EReal := (∑ i, ∑ j, v i j) * ((1 / 256 : ℝ) : EReal)

/-- One unit of the hidden layer before its bias. -/
def hidden (v : Fin 768 → Fin 16 → Fin 16 → EReal) (w1 : Fin 384 → Fin 768 → EReal) (o : Fin 384) : EReal :=
  ∑ ch, mean (v ch) * w1 o ch

/-- The score of the gate before the logistic function. -/
def score (h b1 w2 : Fin 384 → EReal) (b2 : EReal) : EReal := (∑ o, max (h o + b1 o) 0 * w2 o) + b2

/-- The gate is open when its score is positive. -/
def gate (z : EReal) : EReal := if 0 < z then 1 else 0

/-- The gate of one branch of one sample. -/
def gateOf (v : Fin 768 → Fin 16 → Fin 16 → EReal) (w1 : Fin 384 → Fin 768 → EReal) (b1 w2 : Fin 384 → EReal) (b2 : EReal) : EReal :=
  gate (score (hidden v w1) b1 w2 b2)

/-- The result for one sample. -/
def result (x : Fin 768 → Fin 32 → Fin 32 → EReal) (p : EReal) (w1 : Fin 384 → Fin 768 → EReal) (b1 w2 : Fin 384 → EReal) (b2 : EReal)
    (ch : Fin 768) (i j : Fin 16) : EReal :=
  max (branch1 (sigmoid p) (x ch) i j * gateOf (fun c => branch1 (sigmoid p) (x c)) w1 b1 w2 b2)
    (branch2 (sigmoid p) (x ch) i j * gateOf (fun c => branch2 (sigmoid p) (x c)) w1 b1 w2 b2)

/-! ## Literals -/

theorem lit_bot : Ideal.ofBits .f32 0xFF800000#32 = (⊥ : EReal) := by simp [Ideal.ofBits, Ideal.ieee]
theorem lit_four : Ideal.ofBits .f32 0x40800000#32 = ((4 : ℝ) : EReal) := by
  simp [Ideal.ofBits, Ideal.ieee, -EReal.coe_mul]; norm_num
theorem lit_quarter : Ideal.ofBits .f32 0x3E800000#32 = ((1 / 4 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_256 : Ideal.ofBits .f32 0x43800000#32 = ((256 : ℝ) : EReal) := by
  simp [Ideal.ofBits, Ideal.ieee, -EReal.coe_mul]; norm_num
theorem lit_256th : Ideal.ofBits .f32 0x3B800000#32 = ((1 / 256 : ℝ) : EReal) := by
  simp [Ideal.ofBits, Ideal.ieee, -EReal.coe_mul]; norm_num

/-! ## The threshold of the logistic function -/

/-- The logistic function exceeds one half exactly on the positive numbers. -/
theorem half_lt_sigmoid (z : EReal) : ((1 / 2 : ℝ) : EReal) < sigmoid z ↔ 0 < z := by
  unfold sigmoid
  induction z using EReal.rec with
  | bot =>
    rw [EReal.neg_bot, Ideal.exp_top, EReal.add_top_of_ne_bot (by decide)]
    simp [Ideal.div]
  | top =>
    rw [EReal.neg_top, Ideal.exp_bot, add_zero, show (1 : EReal) = ((1 : ℝ) : EReal) from rfl, Ideal.div_coe one_ne_zero]
    simp only [div_one, ← EReal.coe_mul, EReal.coe_lt_coe_iff, one_mul]
    exact ⟨fun _ => EReal.zero_lt_top, fun _ => by norm_num⟩
  | coe r =>
    have hp : (0 : ℝ) < 1 + Real.exp (-r) := by positivity
    rw [← EReal.coe_neg, Ideal.exp_coe, show (1 : EReal) = ((1 : ℝ) : EReal) from rfl, ← EReal.coe_add, Ideal.div_coe hp.ne',
      ← EReal.coe_mul, EReal.coe_lt_coe_iff, one_mul, show (0 : EReal) = ((0 : ℝ) : EReal) from rfl, EReal.coe_lt_coe_iff,
      one_div_lt_one_div (by norm_num) hp]
    rw [show (1 + Real.exp (-r) < 2 ↔ Real.exp (-r) < 1) from ⟨fun h => by linarith, fun h => by linarith⟩, Real.exp_lt_one_iff]
    exact ⟨fun h => by linarith, fun h => by linarith⟩

end Cert.Spec

end
-- ==== Proof.KerBlock.lean ====
module

public import proofs.«01_k».proof.Proof.Body
public import proofs.«01_k».proof.Proof.Spec
public import Idealize.ShloMosaic.Lib.Pointwise
public import Idealize.ShloMosaic.Lib.Pipeline.ValueKit

/-! What the body's functions compute over the extended reals, element by element. -/

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## The strided loads -/

/-- A load of every second row and column, at an index. -/
theorem strided_apply (x : Vec Ideal S1x32x32x128 .f32) (r s : Fin 2)
    (inb : ∀ a, S1x16x16x128.size a = 0 ∨ (![0, r.val, s.val, 0] : Fin 4 → ℕ) a + (![1, 2, 2, 1] : Fin 4 → ℕ) a * (S1x16x16x128.size a - 1) < S1x32x32x128.size a)
    (i j : Fin 16) (z : Fin 128) :
    x ((⟨![0, r.val, s.val, 0], S1x16x16x128.size, ![1, 2, 2, 1], inb⟩ : LoadRect S1x32x32x128).idx (ix4 0 i j z))
      = Spec.px (fun u v => x (ix4 0 u v z)) i j r s := by
  refine congrArg x (funext fun a => Fin.ext ?_)
  match a with
  | ⟨0, _⟩ => rfl
  | ⟨1, _⟩ => exact Nat.add_comm _ _
  | ⟨2, _⟩ => exact Nat.add_comm _ _
  | ⟨3, _⟩ => exact (Nat.zero_add _).trans (Nat.one_mul _)

theorem q00_apply (x : Vec Ideal S1x32x32x128 .f32) (i j : Fin 16) (z : Fin 128) :
    q00 x (ix4 0 i j z) = Spec.px (fun u v => x (ix4 0 u v z)) i j 0 0 := strided_apply x 0 0 _ i j z
theorem q01_apply (x : Vec Ideal S1x32x32x128 .f32) (i j : Fin 16) (z : Fin 128) :
    q01 x (ix4 0 i j z) = Spec.px (fun u v => x (ix4 0 u v z)) i j 0 1 := strided_apply x 0 1 _ i j z
theorem q10_apply (x : Vec Ideal S1x32x32x128 .f32) (i j : Fin 16) (z : Fin 128) :
    q10 x (ix4 0 i j z) = Spec.px (fun u v => x (ix4 0 u v z)) i j 1 0 := strided_apply x 1 0 _ i j z
theorem q11_apply (x : Vec Ideal S1x32x32x128 .f32) (i j : Fin 16) (z : Fin 128) :
    q11 x (ix4 0 i j z) = Spec.px (fun u v => x (ix4 0 u v z)) i j 1 1 := strided_apply x 1 1 _ i j z

/-! ## The pooled chunks -/

/-- Place `(i, j)` of a pooled plane in its flattened form. -/
def flat (i j : Fin 16) : Fin 256 := ⟨i.val * 16 + j.val, by omega⟩

theorem top_apply (x : Vec Ideal S1x32x32x128 .f32) (i j : Fin 16) (z : Fin 128) :
    k0_pay12 (q00 x) (q01 x) (q10 x) (q11 x) (ix3 i j z) = Spec.top (fun u v => x (ix4 0 u v z)) i j := by
  pointwise [k0_pay12, k0_pay8, k0_pay9, k0_pay10, k0_pay11, Spec.top]
  rw [q00_apply, q01_apply, q10_apply, q11_apply]

theorem avg_apply (x : Vec Ideal S1x32x32x128 .f32) (i j : Fin 16) (z : Fin 128) :
    k0_pay13 (q00 x) (q01 x) (q10 x) (q11 x) (ix3 i j z) = Spec.avg (fun u v => x (ix4 0 u v z)) i j := by
  pointwise [k0_pay13, k0_pay8, k0_pay9, k0_pay10, k0_pay11, Spec.avg]
  rw [q00_apply, q01_apply, q10_apply, q11_apply, Spec.lit_quarter]

theorem pool1_apply (x0 : Vec Ideal S1 .f32) (x : Vec Ideal S1x32x32x128 .f32) (i j : Fin 16) (z : Fin 128) :
    pool1 x0 x (ix2 (flat i j) z) = Spec.branch1 (word x0) (fun u v => x (ix4 0 u v z)) i j := by
  unfold pool1
  pointwise [k0_pay14, flat]
  rw [top_apply, avg_apply]
  rfl

theorem pool2_apply (x0 : Vec Ideal S1 .f32) (x : Vec Ideal S1x32x32x128 .f32) (i j : Fin 16) (z : Fin 128) :
    pool2 x0 x (ix2 (flat i j) z) = Spec.branch2 (word x0) (fun u v => x (ix4 0 u v z)) i j := by
  unfold pool2
  pointwise [k0_pay15, flat]
  rw [top_apply, avg_apply]
  rfl

/-! ## The hidden layer and the gate -/

/-- The product of the channel means of a chunk with its columns of the weights. -/
def chunk (p : FVec Ideal S256x128 .f32) (w : Vec Ideal S384x128 .f32) (o : Fin 384) : EReal :=
  ∑ z : Fin 128, Spec.mean (fun i j => p (ix2 (flat i j) z)) * w (ix2 o z)

/-- The sum over a flattened plane is the sum over its rows and columns. -/
theorem sum_flat (f : Fin 256 → EReal) : ∑ i : Fin 16, ∑ j : Fin 16, f (flat i j) = ∑ k : Fin 256, f k := Fin.sum_mul_add_fin 16 16 f

theorem pay1_apply (p : FVec Ideal S256x128 .f32) (w : Vec Ideal S384x128 .f32) (o : Fin 384) : k0_pay1 p w (ix2 0 o) = chunk p w o := by
  pointwise [k0_pay1, chunk, Spec.mean]
  refine Finset.sum_congr rfl fun z _ => ?_
  rw [Spec.lit_256th, ← sum_flat fun k => p (ix2 k z)]

theorem pay2_eq (p : FVec Ideal S256x128 .f32) (w : Vec Ideal S384x128 .f32) : k0_pay2 p w = k0_pay1 p w := rfl

theorem pay3_apply (p : FVec Ideal S256x128 .f32) (w : Vec Ideal S384x128 .f32) (o : Fin 384) : k0_pay3 p w (ix2 0 o) = chunk p w o := by
  rw [← pay1_apply]
  pointwise [k0_pay3]

theorem pay5_apply (p : FVec Ideal S256x128 .f32) (w : Vec Ideal S384x128 .f32) (d : Vec Ideal S1x384 .f32) (o : Fin 384) :
    k0_pay5 p w d (ix2 0 o) = d (ix2 0 o) + chunk p w o := by
  rw [← pay1_apply]
  pointwise [k0_pay5]

theorem pay4_eq (p : FVec Ideal S256x128 .f32) (w : Vec Ideal S384x128 .f32) : k0_pay4 p w = k0_pay3 p w := rfl
theorem pay6_eq (p : FVec Ideal S256x128 .f32) (w : Vec Ideal S384x128 .f32) (d : Vec Ideal S1x384 .f32) : k0_pay6 p w d = k0_pay5 p w d := rfl

theorem gate1_apply (b1 w2 : Vec Ideal S1x384 .f32) (b2 : Vec Ideal S1 .f32) (d : Vec Ideal S1x384 .f32) :
    gate1 b1 w2 b2 d = Spec.gate (Spec.score (fun o => d (ix2 0 o)) (fun o => b1 (ix2 0 o)) (fun o => w2 (ix2 0 o)) (word b2)) := by
  unfold gate1
  pointwise [k0_pay18, Spec.gate, Spec.score]

theorem gate2_eq (b1 w2 : Vec Ideal S1x384 .f32) (b2 : Vec Ideal S1 .f32) (d : Vec Ideal S1x384 .f32) : gate2 b1 w2 b2 d = gate1 b1 w2 b2 d := rfl

end Cert.KernelIdeal.Hand

end
-- ==== Proof.KerIn.lean ====
module

public import proofs.«01_k».proof.Proof.State
public import proofs.«01_k».proof.Proof.KerBlock

/-! What the windows' blocks hold, element by element, in terms of the arguments. -/

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-- Where each window's block lies at a point: the sample is `t / 7`, the chunk is `t % 7`, the last point staying at chunk 5. -/
theorem idx : ∀ t : Fin cfg0.N,
    win0_0.index t = ![0] ∧ win0_1.index t = ![t.val / 7, 0, 0, min (t.val % 7) 5] ∧ win0_2.index t = ![0, min (t.val % 7) 5]
      ∧ win0_3.index t = ![0, 0] ∧ win0_4.index t = ![0, 0] ∧ win0_5.index t = ![0] ∧ win0_6.index t = ![t.val / 7, 0, 0, 0] := by
  decide +kernel

theorem sample_lt (t : Fin cfg0.N) : t.val / 7 < 4 := by
  have hN : cfg0.N = 28 := N_0
  have ht := t.isLt
  omega

/-- The sample of a point. -/
def sample (t : Fin cfg0.N) : Fin 4 := ⟨t.val / 7, sample_lt t⟩

/-- The channel that lane `z` of point `t`'s chunk holds. -/
def chan (t : Fin cfg0.N) (z : Fin 128) : Fin 768 := ⟨min (t.val % 7) 5 * 128 + z.val, by have := z.isLt; omega⟩

/-- The transposed images that the region finds. -/
theorem V_v0 (c : Dev nD) : V m c main_call0_v0
    = transpose S4x32x32x768 [0, 2, 3, 1] (m ((c.tc : Thread nD τ).loc main_arg0) : FVec Ideal S4x768x32x32 .f32) transposes_S4x768x32x32_S4x32x32x768_0_2_3_1 := by
  simp only [V, V0, List.flatten_cons, List.flatten_nil, List.append_nil]
  entry_read
  rfl

/-- The weight of the average that the region finds. -/
theorem V_v6 (c : Dev nD) : (V m c main_call0_v6 : FVec Ideal S1 .f32) (ix1 0) = Spec.sigmoid ((m ((c.tc : Thread nD τ).loc main_arg1) : FVec Ideal S1 .f32) (ix1 0)) := by
  have e : @Eq (FVec Ideal S1 .f32) (V m c main_call0_v6)
      (Host.divf (broadcastInDim S1 ![] bcast_S_S1 (constant S_ .f32 0x3F800000#32))
          (addf (broadcastInDim S1 ![] bcast_S_S1 (constant S_ .f32 0x3F800000#32))
            (Host.exp (Host.negf (m ((c.tc : Thread nD τ).loc main_arg1) : FVec Ideal S1 .f32))))) := by
    simp only [V, V0, List.flatten_cons, List.flatten_nil, List.append_nil]
    entry_read
    rfl
  rw [e]
  pointwise [Spec.sigmoid]

/-- The first bias, as a row, that the region finds. -/
theorem V_v7 (c : Dev nD) (o : Fin 384) : (V m c main_call0_v7 : FVec Ideal S1x384 .f32) (ix2 0 o) = (m ((c.tc : Thread nD τ).loc main_arg7) : FVec Ideal S384 .f32) (ix1 o) := by
  simp only [V, V0, List.flatten_cons, List.flatten_nil, List.append_nil]
  entry_read
  pointwise

theorem iblk1_apply (c : Dev nD) (t : Fin cfg0.N) (r s : Fin 32) (z : Fin 128) :
    iblk m c 1 t (ix4 0 r s z) = (m ((c.tc : Thread nD τ).loc main_arg0) : FVec Ideal S4x768x32x32 .f32) (ix4 (sample t) (chan t z) r s) := by
  have e : iblk m c 1 t (ix4 0 r s z) = (V m c main_call0_v0 : FVec Ideal S4x32x32x768 .f32) (ix4 (sample t) r s (chan t z)) := by
    blk_ext [iblk, idx t, sample, chan]
  rw [e, V_v0]
  pointwise

theorem iblk2_apply (c : Dev nD) (t : Fin cfg0.N) (o : Fin 384) (z : Fin 128) :
    iblk m c 2 t (ix2 o z) = (m ((c.tc : Thread nD τ).loc main_arg6) : FVec Ideal S384x768 .f32) (ix2 o (chan t z)) := by
  blk_ext! [iblk, V, idx t, chan]

theorem iblk3_apply (c : Dev nD) (t : Fin cfg0.N) (o : Fin 384) :
    iblk m c 3 t (ix2 0 o) = (m ((c.tc : Thread nD τ).loc main_arg7) : FVec Ideal S384 .f32) (ix1 o) := by
  have e : iblk m c 3 t (ix2 0 o) = (V m c main_call0_v7 : FVec Ideal S1x384 .f32) (ix2 0 o) := by
    blk_ext [iblk, idx t]
  exact e.trans (V_v7 m c o)

theorem iblk4_apply (c : Dev nD) (t : Fin cfg0.N) (o : Fin 384) :
    iblk m c 4 t (ix2 0 o) = (m ((c.tc : Thread nD τ).loc main_arg8) : FVec Ideal S1x384 .f32) (ix2 0 o) := by
  blk_ext! [iblk, V, idx t]

theorem iblk5_apply (c : Dev nD) (t : Fin cfg0.N) :
    iblk m c 5 t (ix1 0) = (m ((c.tc : Thread nD τ).loc main_arg9) : FVec Ideal S1 .f32) (ix1 0) := by
  blk_ext! [iblk, V, idx t]

theorem iblk0_apply (c : Dev nD) (t : Fin cfg0.N) :
    iblk m c 0 t (ix1 0) = Spec.sigmoid ((m ((c.tc : Thread nD τ).loc main_arg1) : FVec Ideal S1 .f32) (ix1 0)) := by
  have e : iblk m c 0 t (ix1 0) = (V m c main_call0_v6 : FVec Ideal S1 .f32) (ix1 0) := by
    blk_ext [iblk, idx t]
  exact e.trans (V_v6 m c)

end Cert.KernelIdeal.Hand

end
-- ==== Proof.KerValue.lean ====
module

public import proofs.«01_k».proof.Proof.KerIn

/-! The output block of a sample, element by element, as the mathematics of the arguments. -/

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-! ## The arguments -/

/-- Channel `k` of image `b`. -/
def img (c : Dev nD) (b : Fin 4) (k : Fin 768) : Fin 32 → Fin 32 → EReal := fun r s =>
  (m ((c.tc : Thread nD τ).loc main_arg0) : FVec Ideal S4x768x32x32 .f32) (ix4 b k r s)
/-- The parameter whose sigmoid weighs the average against the maximum. -/
def par (c : Dev nD) : EReal := (m ((c.tc : Thread nD τ).loc main_arg1) : FVec Ideal S1 .f32) (ix1 0)
/-- The weights of the hidden layer. -/
def wt1 (c : Dev nD) (o : Fin 384) (k : Fin 768) : EReal := (m ((c.tc : Thread nD τ).loc main_arg6) : FVec Ideal S384x768 .f32) (ix2 o k)
/-- The biases of the hidden layer. -/
def bs1 (c : Dev nD) (o : Fin 384) : EReal := (m ((c.tc : Thread nD τ).loc main_arg7) : FVec Ideal S384 .f32) (ix1 o)
/-- The weights of the score. -/
def wt2 (c : Dev nD) (o : Fin 384) : EReal := (m ((c.tc : Thread nD τ).loc main_arg8) : FVec Ideal S1x384 .f32) (ix2 0 o)
/-- The bias of the score. -/
def bs2 (c : Dev nD) : EReal := (m ((c.tc : Thread nD τ).loc main_arg9) : FVec Ideal S1 .f32) (ix1 0)

/-! ## The pooled chunks -/

theorem pt1_apply (c : Dev nD) (t : Fin cfg0.N) (i j : Fin 16) (z : Fin 128) :
    pt1 m c t (ix2 (flat i j) z) = Spec.branch1 (Spec.sigmoid (par m c)) (img m c (sample t) (chan t z)) i j := by
  unfold pt1
  rw [pool1_apply]
  exact congrArg₂ (fun a b => Spec.branch1 a b i j) (iblk0_apply m c t)
    (funext fun r => funext fun s => iblk1_apply m c t r s z)

theorem pt2_apply (c : Dev nD) (t : Fin cfg0.N) (i j : Fin 16) (z : Fin 128) :
    pt2 m c t (ix2 (flat i j) z) = Spec.branch2 (Spec.sigmoid (par m c)) (img m c (sample t) (chan t z)) i j := by
  unfold pt2
  rw [pool2_apply]
  exact congrArg₂ (fun a b => Spec.branch2 a b i j) (iblk0_apply m c t)
    (funext fun r => funext fun s => iblk1_apply m c t r s z)

/-! ## The hidden layer -/

/-- The point of chunk `k` in the sample of point `t`. -/
def mate (t : Fin cfg0.N) (k : Fin 6) : Fin cfg0.N := ⟨7 * (t.val / 7) + k.val, by
  have hN : cfg0.N = 28 := N_0
  have ht := t.isLt
  have hk := k.isLt
  omega⟩

theorem sample_mate (t : Fin cfg0.N) (k : Fin 6) : sample (mate t k) = sample t := by
  refine Fin.ext ?_
  have hk := k.isLt
  dsimp only [sample, mate]; omega

theorem chan_mate (t : Fin cfg0.N) (k : Fin 6) (z : Fin 128) (h : k.val * 128 + z.val < 768) : chan (mate t k) z = ⟨k.val * 128 + z.val, h⟩ := by
  refine Fin.ext ?_
  have hk := k.isLt
  have hz := z.isLt
  dsimp only [chan, mate]; omega

/-- A value set at the first of seven points, added to at the next five and kept at the last is the sum of the six terms. -/
theorem six_steps (a : (n : ℕ) → n < cfg0.N → EReal) (g : Fin cfg0.N → EReal)
    (hf : ∀ t : Fin cfg0.N, t.val % 7 = 0 → a t.val t.isLt = g t)
    (hn : ∀ t : Fin cfg0.N, t.val % 7 ≠ 0 → t.val % 7 ≠ 6 → a t.val t.isLt = a (t.val - 1) (Nat.lt_of_le_of_lt (Nat.sub_le _ _) t.isLt) + g t)
    (hl : ∀ t : Fin cfg0.N, t.val % 7 = 6 → a t.val t.isLt = a (t.val - 1) (Nat.lt_of_le_of_lt (Nat.sub_le _ _) t.isLt))
    (t : Fin cfg0.N) (h6 : t.val % 7 = 6) : a t.val t.isLt = ∑ k : Fin 6, g (mate t k) := by
  have ac : ∀ n n' h h', n = n' → a n h = a n' h' := by intro n n' h h' e; subst e; rfl
  have first : a (mate t 0).val (mate t 0).isLt = g (mate t 0) := hf _ (by dsimp only [mate]; omega)
  have next : ∀ k k' : Fin 6, k'.val = k.val + 1 → a (mate t k').val (mate t k').isLt = a (mate t k).val (mate t k).isLt + g (mate t k') := by
    intro k k' e
    have hk' := k'.isLt
    rw [hn (mate t k') (by dsimp only [mate]; omega) (by dsimp only [mate]; omega)]
    exact congrArg (· + _) (ac _ _ _ _ (by dsimp only [mate]; omega))
  rw [hl t h6, ac _ (mate t 5).val _ (mate t 5).isLt (by dsimp only [mate]; omega), next 4 5 rfl, next 3 4 rfl, next 2 3 rfl, next 1 2 rfl,
    next 0 1 rfl, first, Fin.sum_univ_six]

/-- The six chunks' products make up the product over all channels. -/
theorem chunks_sum (c : Dev nD) (p : Fin cfg0.N → FVec Ideal S256x128 .f32) (v : Fin 768 → Fin 16 → Fin 16 → EReal) (t : Fin cfg0.N)
    (hp : ∀ (k : Fin 6) (z : Fin 128) (i j : Fin 16), p (mate t k) (ix2 (flat i j) z) = v (chan (mate t k) z) i j) (o : Fin 384) :
    ∑ k : Fin 6, chunk (p (mate t k)) (iblk m c 2 (mate t k)) o = Spec.hidden v (wt1 m c) o := by
  unfold chunk Spec.hidden
  refine Fin.sum_mul_add_congr fun k z hl => ?_
  rw [← chan_mate t k z hl]
  refine congr (congrArg (fun a b => a * b) (congrArg Spec.mean (funext fun i => funext fun j => hp k z i j))) ?_
  exact iblk2_apply m c (mate t k) o z

theorem acc1_hidden (c : Dev nD) (t : Fin cfg0.N) (h6 : t.val % 7 = 6) (o : Fin 384) :
    acc1 m c t.val t.isLt (ix2 0 o)
      = Spec.hidden (fun k => Spec.branch1 (Spec.sigmoid (par m c)) (img m c (sample t) k)) (wt1 m c) o := by
  rw [six_steps (fun n h => acc1 m c n h (ix2 0 o)) (fun t => chunk (pt1 m c t) (iblk m c 2 t) o)
    (fun t h => by rw [acc1_first m c t h]; exact pay3_apply _ _ o)
    (fun t h h' => by rw [acc1_next m c t h h']; exact pay5_apply _ _ _ o)
    (fun t h => by rw [acc1_last m c t h]) t h6]
  exact chunks_sum m c (pt1 m c) _ t (fun k z i j => by rw [pt1_apply, sample_mate]) o

theorem acc2_hidden (c : Dev nD) (t : Fin cfg0.N) (h6 : t.val % 7 = 6) (o : Fin 384) :
    acc2 m c t.val t.isLt (ix2 0 o)
      = Spec.hidden (fun k => Spec.branch2 (Spec.sigmoid (par m c)) (img m c (sample t) k)) (wt1 m c) o := by
  rw [six_steps (fun n h => acc2 m c n h (ix2 0 o)) (fun t => chunk (pt2 m c t) (iblk m c 2 t) o)
    (fun t h => by rw [acc2_first m c t h, pay4_eq]; exact pay3_apply _ _ o)
    (fun t h h' => by rw [acc2_next m c t h h', pay6_eq]; exact pay5_apply _ _ _ o)
    (fun t h => by rw [acc2_last m c t h]) t h6]
  exact chunks_sum m c (pt2 m c) _ t (fun k z i j => by rw [pt2_apply, sample_mate]) o

/-! ## The gates and the output block -/

theorem gate_of (c : Dev nD) (t : Fin cfg0.N) (d : Vec Ideal S1x384 .f32) (v : Fin 768 → Fin 16 → Fin 16 → EReal)
    (hd : ∀ o, d (ix2 0 o) = Spec.hidden v (wt1 m c) o) :
    gate1 (iblk m c 3 t) (iblk m c 4 t) (iblk m c 5 t) d = Spec.gateOf v (wt1 m c) (bs1 m c) (wt2 m c) (bs2 m c) := by
  rw [gate1_apply]
  unfold Spec.gateOf
  rw [show (fun o => d (ix2 0 o)) = Spec.hidden v (wt1 m c) from funext hd,
    show (fun o => iblk m c 3 t (ix2 0 o)) = bs1 m c from funext (iblk3_apply m c t),
    show (fun o => iblk m c 4 t (ix2 0 o)) = wt2 m c from funext (iblk4_apply m c t)]
  exact congrArg (fun b => Spec.gate (Spec.score _ _ _ b)) (iblk5_apply m c t)

/-- Lane `k % 128` of slab `k / 128` holds channel `k`. -/
theorem slabs_apply (p : Fin cfg0.N → FVec Ideal S256x128 .f32) (v : Fin 768 → Fin 16 → Fin 16 → EReal) (t : Fin cfg0.N)
    (hp : ∀ (k : Fin 6) (z : Fin 128) (i j : Fin 16), p (mate t k) (ix2 (flat i j) z) = v (chan (mate t k) z) i j)
    (i j : Fin 16) (k : Fin 768) (h0 : k.val / 128 < 6) (h1 : i.val * 16 + j.val < 256) (h2 : k.val % 128 < 128) :
    slabs p t (ix3 ⟨k.val / 128, h0⟩ ⟨i.val * 16 + j.val, h1⟩ ⟨k.val % 128, h2⟩) = v k i j := by
  refine (hp ⟨k.val / 128, h0⟩ ⟨k.val % 128, h2⟩ i j).trans ?_
  rw [chan_mate t ⟨k.val / 128, h0⟩ ⟨k.val % 128, h2⟩ (by dsimp only; omega)]
  exact congrArg (fun a => v a i j) (Fin.ext (by dsimp only; omega))

/-- The output block of a sample at its last point. -/
theorem outAt_apply (c : Dev nD) (t : Fin cfg0.N) (h6 : t.val % 7 = 6) (i j : Fin 16) (k : Fin 768) :
    outAt m c t (ix4 0 i j k)
      = Spec.result (img m c (sample t)) (par m c) (wt1 m c) (bs1 m c) (wt2 m c) (bs2 m c) k i j := by
  unfold outAt
  rw [gate2_eq, gate_of m c t _ _ (acc1_hidden m c t h6), gate_of m c t _ _ (acc2_hidden m c t h6)]
  unfold outBlock Spec.result
  refine congr (congrArg (fun a b => max a b) (congrArg (· * _) ?_)) (congrArg (· * _) ?_)
  · exact slabs_apply (pt1 m c) (fun k => Spec.branch1 (Spec.sigmoid (par m c)) (img m c (sample t) k)) t
      (fun k z i j => by rw [pt1_apply, sample_mate]) i j k _ _ _
  · exact slabs_apply (pt2 m c) (fun k => Spec.branch2 (Spec.sigmoid (par m c)) (img m c (sample t) k)) t
      (fun k z i j => by rw [pt2_apply, sample_mate]) i j k _ _ _

/-! ## The output array -/

/-- The array that the launch leaves: the result with the channels last. -/
def outArr (c : Dev nD) : FVec Ideal S4x16x16x768 .f32 := fun y =>
  Spec.result (img m c (y 0)) (par m c) (wt1 m c) (bs1 m c) (wt2 m c) (bs2 m c) (y 3) (y 1) (y 2)

theorem block_at (c : Dev nD) (t : Fin cfg0.N) (h6 : t.val % 7 = 6) (y : S1x16x16x768.Idx) :
    outAt m c t y = outArr m c (ix4 (sample t) (y 1) (y 2) (y 3)) := by
  have e : y = ix4 0 (y 1) (y 2) (y 3) := by
    refine funext fun a => ?_
    match a with
    | ⟨0, _⟩ => exact Subsingleton.elim (α := Fin 1) _ _
    | ⟨1, _⟩ => rfl
    | ⟨2, _⟩ => rfl
    | ⟨3, _⟩ => rfl
  exact (congrArg (outAt m c t) e).trans (outAt_apply m c t h6 (y 1) (y 2) (y 3))

theorem final6 (c : Dev nD) : (dats m 0 c).arrAt 6 cfg0.N = outArr m c := by
  refine (dats m 0 c).arrAt_eq_of_covers 6 _ (by decide +kernel) fun t hf y => ?_
  blk_simp
  rw [after0_6]
  exact (block_at m c t ((flush0_6 t).mp hf) y).trans (congrArg (outArr m c) (by blk_ext [idx t, sample]))

end Cert.KernelIdeal.Hand

end
-- ==== Proof.KerRun.lean ====
module

public import proofs.«01_k».proof.Proof.Sound
public import proofs.«01_k».proof.Proof.KerValue

/-! The kernel's result array after its run. -/

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-- The result: every channel of every image, at every place of the pooled plane. -/
def resArr (c : Dev nD) : FVec Ideal S4x768x16x16 .f32 := fun y =>
  Spec.result (img m c (y 0)) (par m c) (wt1 m c) (bs1 m c) (wt2 m c) (bs2 m c) (y 1) (y 2) (y 3)

/-- The host's last step puts the channels back in second place. -/
theorem tail_v0 (c : Dev nD) : Pipeline.afterTail₀ cfgs (dats m) 0 (V0 m) [hostOps1] c main_v0 = resArr m c := by
  unfold Pipeline.afterTail₀
  simp only [List.flatten_cons, List.flatten_nil, List.append_nil]
  entry_read
  have e : Pipeline.withArrays spec0 c (V0 m c) (fun w => (dats m 0 c).arrAt w cfg0.N) (Proc.devRef .tc main_call0_v8) = outArr m c :=
    (Pipeline.withArrays_arr spec0 (by decide) c (V0 m c) (fun w => (dats m 0 c).arrAt w cfg0.N) 6).trans (final6 m c)
  refine (congrArg (fun X : FVec Ideal S4x16x16x768 .f32 =>
    transpose S4x768x16x16 [0, 3, 1, 2] X transposes_S4x16x16x768_S4x768x16x16_0_3_1_2) e).trans (funext fun y => ?_)
  pointwise [outArr, resArr]

/-- The launch leaves the result and the arguments unchanged. -/
theorem run_value (ρ : Dev nD → PrngReg) : θ_run defs (onTc (τ := τ) (main (F := Ideal))) ⟨m, fun _ => 0, ρ⟩
    (fun r => ∀ c : Dev nD, r.2.mem ((c.tc : Thread nD τ).loc main_v0) = resArr m c) :=
  (θ_run defs _ _).mono (fun r h c => ((h.1 c).2 main_v0 (Pipeline.mem_restRefs_of main_v0 (by decide) (by decide))).trans (tail_v0 m c))
    (run_main m ρ)

end Cert.KernelIdeal.Hand

end
-- ==== Proof.SameText.lean ====
module

public import proofs.«01_k».proof.Defs
public import proofs.«01_k».proof.Proof.Gen.Kernel
public import proofs.«01_k».proof.Proof.Sound

/-! The two printed programs of the kernel have the same text, so a run of one is a run of the other. -/

@[expose] public section

set_option maxRecDepth 16384

noncomputable section

namespace Cert.SameText

open Idealize.ShloMosaic Idealize.SL.Sem

set_option maxHeartbeats 1000000 in
/-- The kernel's function at a grid point. -/
theorem function_eq : @Cert.Kernel.cc0__pool_gate_kernel Bits _ _ = @Cert.KernelIdeal.cc0__pool_gate_kernel Bits _ _ := rfl

set_option maxHeartbeats 1000000 in
/-- The table of bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [function_eq]
    rfl

set_option maxHeartbeats 1000000 in
/-- The table of bodies with the launch. -/
theorem defs_eq : Cert.Kernel.defs (F := Bits) = Cert.KernelIdeal.defs (F := Bits) :=
  congrArg (Pipeline.defs (Cert.KernelIdeal.pcfgs (F := Bits))) bodies_eq

set_option maxHeartbeats 4000000 in
/-- The main program. -/
theorem main_eq : Cert.Kernel.main (F := Bits) = Cert.KernelIdeal.main (F := Bits) := rfl

/-- The kernel, with float operations opaque, runs, keeps its arguments and leaves every counter at zero. -/
theorem frame : Cert.quiescent_Kernel := by
  intro m ρ _
  have key : ∀ d p, Cert.Kernel.defs (F := Bits) = d → Cert.Kernel.main (F := Bits) = p → ∀ Q,
      θ_run d (onTc (τ := Cert.Kernel.τ) p) ⟨m, fun _ => 0, ρ⟩ Q
        → θ_run (Cert.Kernel.defs (F := Bits)) (onTc (τ := Cert.Kernel.τ) (Cert.Kernel.main (F := Bits))) ⟨m, fun _ => 0, ρ⟩ Q := by
    rintro _ _ rfl rfl Q h
    exact h
  exact key _ _ defs_eq main_eq _ (Cert.KernelIdeal.Hand.frame (F := Bits) m ρ)

end Cert.SameText

end
-- ==== Proof.RefValue.lean ====
module

public import proofs.«01_k».proof.Proof.Spec
public import proofs.«01_k».proof.Proof.Gen.ReferenceIdeal.Run
public import Idealize.ShloMosaic.Lib.Pointwise

/-! What the reference's result holds, element by element. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## Pooling windows -/

/-- A left fold over four positions, written out. -/
theorem foldl_four {α : Type} (N : ℕ) (hN : N = 4) (g : α → Fin N → α) (v : α) :
    (List.finRange N).foldl g v = g (g (g (g v ⟨0, by omega⟩) ⟨1, by omega⟩) ⟨2, by omega⟩) ⟨3, by omega⟩ := by
  subst hN
  rfl

/-- A fold over the 2 by 2 windows of the image plane, written out. -/
theorem window_apply {α : Type} (f : α → α → α) (x : S4x768x32x32.Idx → α) (init : S_.Idx → α)
    (h : S4x768x32x32.ReduceWindows ![1, 1, 2, 2] ![1, 1, 2, 2] ![0, 0, 0, 0] ![0, 0, 0, 0] S4x768x16x16) (hu : 0 < S_.numel)
    (b : Fin 4) (c : Fin 768) (i j : Fin 16) :
    Host.reduceWindow f ![1, 1, 2, 2] ![1, 1, 2, 2] ![0, 0, 0, 0] ![0, 0, 0, 0] x init h hu (ix4 b c i j)
      = f (f (f (f (init ix0)
          (x (ix4 b c ⟨2 * i.val + 0, by omega⟩ ⟨2 * j.val + 0, by omega⟩)))
          (x (ix4 b c ⟨2 * i.val + 0, by omega⟩ ⟨2 * j.val + 1, by omega⟩)))
          (x (ix4 b c ⟨2 * i.val + 1, by omega⟩ ⟨2 * j.val + 0, by omega⟩)))
          (x (ix4 b c ⟨2 * i.val + 1, by omega⟩ ⟨2 * j.val + 1, by omega⟩)) := by
  have key : ∀ (p : Fin 4 → ℕ) (r s : ℕ) (hr : r < 2) (hs : s < 2), p 0 = b.val * 1 + 0 → p 1 = c.val * 1 + 0 → p 2 = i.val * 2 + r → p 3 = j.val * 2 + s →
      ∀ (v : α) (dec : Decidable (∀ a : Fin 4, (![0, 0, 0, 0] : Fin 4 → ℕ) a ≤ p a ∧ p a - (![0, 0, 0, 0] : Fin 4 → ℕ) a < S4x768x32x32.size a)),
        (if hin : ∀ a : Fin 4, (![0, 0, 0, 0] : Fin 4 → ℕ) a ≤ p a ∧ p a - (![0, 0, 0, 0] : Fin 4 → ℕ) a < S4x768x32x32.size a
        then x (fun a => ⟨p a - (![0, 0, 0, 0] : Fin 4 → ℕ) a, (hin a).2⟩) else v)
        = x (ix4 b c ⟨2 * i.val + r, by omega⟩ ⟨2 * j.val + s, by omega⟩) := by
    intro p r s hr hs h0 h1 h2 h3 v dec
    have hb := b.isLt
    have hc := c.isLt
    have hi := i.isLt
    have hj := j.isLt
    rw [dif_pos]
    · refine congrArg x (funext fun a => Fin.ext ?_)
      match a with
      | ⟨0, _⟩ => exact (congrArg (· - 0) h0).trans (by simp)
      | ⟨1, _⟩ => exact (congrArg (· - 0) h1).trans (by simp)
      | ⟨2, _⟩ => exact (congrArg (· - 0) h2).trans (by show i.val * 2 + r - 0 = 2 * i.val + r; omega)
      | ⟨3, _⟩ => exact (congrArg (· - 0) h3).trans (by show j.val * 2 + s - 0 = 2 * j.val + s; omega)
    · intro a
      match a with
      | ⟨0, _⟩ => exact ⟨Nat.zero_le _, by show p 0 - 0 < 4; omega⟩
      | ⟨1, _⟩ => exact ⟨Nat.zero_le _, by show p 1 - 0 < 768; omega⟩
      | ⟨2, _⟩ => exact ⟨Nat.zero_le _, by show p 2 - 0 < 32; omega⟩
      | ⟨3, _⟩ => exact ⟨Nat.zero_le _, by show p 3 - 0 < 32; omega⟩
  have hN : (⟨4, ![1, 1, 2, 2]⟩ : Shape).numel = 4 := by decide
  have e0 : init (Shape.Idx.first hu) = init ix0 := congrArg init (funext fun a => a.elim0)
  unfold Host.reduceWindow
  refine (foldl_four _ hN _ _).trans ?_
  dsimp only
  have hsy : ∀ (k : ℕ) (hk : k < (⟨4, ![1, 1, 2, 2]⟩ : Shape).numel) (y : (⟨4, ![1, 1, 2, 2]⟩ : Shape).Idx),
      ((⟨4, ![1, 1, 2, 2]⟩ : Shape).rowMajor y).val = k → (⟨4, ![1, 1, 2, 2]⟩ : Shape).rowMajor.symm ⟨k, hk⟩ = y := by
    intro k hk y hy
    rw [Equiv.symm_apply_eq]
    exact Fin.ext hy.symm
  have k0 := hsy 0 (by decide) (ix4 0 0 0 0) (by decide)
  have k1 := hsy 1 (by decide) (ix4 0 0 0 1) (by decide)
  have k2 := hsy 2 (by decide) (ix4 0 0 1 0) (by decide)
  have k3 := hsy 3 (by decide) (ix4 0 0 1 1) (by decide)
  rw [e0]
  refine congrArg₂ f (congrArg₂ f (congrArg₂ f (congrArg₂ f rfl ?_) ?_) ?_) ?_
  · exact key (fun a => ((ix4 b c i j : S4x768x16x16.Idx) (a.cast h.1.symm)).val * (![1, 1, 2, 2] : Fin 4 → ℕ) a
        + ((⟨4, ![1, 1, 2, 2]⟩ : Shape).rowMajor.symm ⟨0, by decide⟩ a).val) 0 0 (by omega) (by omega)
      (by rw [k0]; rfl) (by rw [k0]; rfl) (by rw [k0]; rfl) (by rw [k0]; rfl) _ _
  · exact key (fun a => ((ix4 b c i j : S4x768x16x16.Idx) (a.cast h.1.symm)).val * (![1, 1, 2, 2] : Fin 4 → ℕ) a
        + ((⟨4, ![1, 1, 2, 2]⟩ : Shape).rowMajor.symm ⟨1, by decide⟩ a).val) 0 1 (by omega) (by omega)
      (by rw [k1]; rfl) (by rw [k1]; rfl) (by rw [k1]; rfl) (by rw [k1]; rfl) _ _
  · exact key (fun a => ((ix4 b c i j : S4x768x16x16.Idx) (a.cast h.1.symm)).val * (![1, 1, 2, 2] : Fin 4 → ℕ) a
        + ((⟨4, ![1, 1, 2, 2]⟩ : Shape).rowMajor.symm ⟨2, by decide⟩ a).val) 1 0 (by omega) (by omega)
      (by rw [k2]; rfl) (by rw [k2]; rfl) (by rw [k2]; rfl) (by rw [k2]; rfl) _ _
  · exact key (fun a => ((ix4 b c i j : S4x768x16x16.Idx) (a.cast h.1.symm)).val * (![1, 1, 2, 2] : Fin 4 → ℕ) a
        + ((⟨4, ![1, 1, 2, 2]⟩ : Shape).rowMajor.symm ⟨3, by decide⟩ a).val) 1 1 (by omega) (by omega)
      (by rw [k3]; rfl) (by rw [k3]; rfl) (by rw [k3]; rfl) (by rw [k3]; rfl) _ _

/-! ## The stages of the reference -/

/-- The maximum of every window. -/
def rTop (x : FVec Ideal S4x768x32x32 .f32) : FVec Ideal S4x768x16x16 .f32 :=
  Host.reduceWindow FloatOps.maximumf ![1, 1, 2, 2] ![1, 1, 2, 2] ![0, 0, 0, 0] ![0, 0, 0, 0] x
    (broadcastInDim S_ ![] bcast_S_S_ (constant S_ .f32 0xFF800000#32)) reduceWindows_S4x768x32x32_S4x768x16x16_w1s1p0_0_w1s1p0_0_w2s2p0_0_w2s2p0_0 h_S_

/-- The mean of every window. -/
def rAvg (x : FVec Ideal S4x768x32x32 .f32) : FVec Ideal S4x768x16x16 .f32 :=
  Host.divf (Host.reduceWindowAdd ![1, 1, 2, 2] ![1, 1, 2, 2] ![0, 0, 0, 0] ![0, 0, 0, 0] x
    (broadcastInDim S_ ![] bcast_S_S_ (constant S_ .f32 0x00000000#32)) reduceWindows_S4x768x32x32_S4x768x16x16_w1s1p0_0_w1s1p0_0_w2s2p0_0_w2s2p0_0 h_S_)
    (broadcastInDim S4x768x16x16 ![] bcast_S_S4x768x16x16 (constant S_ .f32 0x40800000#32))

/-- The weight of the mixture. -/
def rW (p : FVec Ideal S1 .f32) : FVec Ideal S_ .f32 :=
  shapeCast _ (Host.divf (broadcastInDim S1 ![] bcast_S_S1 (constant S_ .f32 0x3F800000#32))
    (addf (broadcastInDim S1 ![] bcast_S_S1 (constant S_ .f32 0x3F800000#32)) (Host.exp (Host.negf p)))) shapeCasts_S1_S_

/-- One array moved towards another by the weight. -/
def rMix (w : FVec Ideal S_ .f32) (u v : FVec Ideal S4x768x16x16 .f32) : FVec Ideal S4x768x16x16 .f32 :=
  addf u (mulf (broadcastInDim S4x768x16x16 ![] bcast_S_S4x768x16x16 w) (subf v u))

/-- The two branches stacked, one row per sample and branch. -/
def rCat (u v : FVec Ideal S4x768x16x16 .f32) : FVec Ideal S8x768x16x16 .f32 :=
  shapeCast _ (concatenate S4x2x768x16x16 1
    [⟨S4x1x768x16x16, (broadcastInDim S4x1x768x16x16 ![0, 2, 3, 4] bcast_S4x768x16x16_S4x1x768x16x16_0_2_3_4 u : FVec Ideal S4x1x768x16x16 .f32)⟩,
      ⟨S4x1x768x16x16, (broadcastInDim S4x1x768x16x16 ![0, 2, 3, 4] bcast_S4x768x16x16_S4x1x768x16x16_0_2_3_4 v : FVec Ideal S4x1x768x16x16 .f32)⟩]
    concatenates_S4x1x768x16x16_S4x1x768x16x16_S4x2x768x16x16_d1) shapeCasts_S4x2x768x16x16_S8x768x16x16

/-- The channel means. -/
def rMean (y : FVec Ideal S8x768x16x16 .f32) : FVec Ideal S8x768 .f32 :=
  Host.divf (Host.reduceAdd y (constant S_ .f32 0x00000000#32) reducesTo_S8x768x16x16_S8x768_d2_3 h_S_)
    (broadcastInDim S8x768 ![] bcast_S_S8x768 (constant S_ .f32 0x43800000#32))

/-- The hidden layer. -/
def rHid (a : FVec Ideal S8x768 .f32) (w1 : FVec Ideal S384x768 .f32) (b1 : FVec Ideal S384 .f32) : FVec Ideal S8x384 .f32 :=
  maximumf (addf (Host.dotGeneral dot_S8x768_S768x384_S8x384_1_0_0_1_n_n none a (transpose S768x384 [1, 0] w1 transposes_S384x768_S768x384_1_0))
    (broadcastInDim S8x384 ![0, 1] bcast_S1x384_S8x384_0_1 (broadcastInDim S1x384 ![1] bcast_S384_S1x384_1 b1)))
    (broadcastInDim S8x384 ![] bcast_S_S8x384 (constant S_ .f32 0x00000000#32))

/-- The score of the gate. -/
def rScore (h : FVec Ideal S8x384 .f32) (w2 : FVec Ideal S1x384 .f32) (b2 : FVec Ideal S1 .f32) : FVec Ideal S8x1 .f32 :=
  addf (Host.dotGeneral dot_S8x384_S384x1_S8x1_1_0_0_1_n_n none h (transpose S384x1 [1, 0] w2 transposes_S1x384_S384x1_1_0))
    (broadcastInDim S8x1 ![0, 1] bcast_S1x1_S8x1_0_1 (broadcastInDim S1x1 ![1] bcast_S1_S1x1_1 b2))

/-- The gate. -/
def rGate (z : FVec Ideal S8x1 .f32) : FVec Ideal S8x1 .f32 :=
  uitofp .f32 (cmpf .ogt (Host.divf (broadcastInDim S8x1 ![] bcast_S_S8x1 (constant S_ .f32 0x3F800000#32))
    (addf (broadcastInDim S8x1 ![] bcast_S_S8x1 (constant S_ .f32 0x3F800000#32)) (Host.exp (Host.negf z))))
    (broadcastInDim S8x1 ![] bcast_S_S8x1 (constant S_ .f32 0x3F000000#32)))

/-- The stacked branches times their gates. -/
def rGated (g : FVec Ideal S8x1 .f32) (y : FVec Ideal S8x768x16x16 .f32) : FVec Ideal S4x2x768x16x16 .f32 :=
  shapeCast _ (mulf (broadcastInDim S8x768x16x16 ![0, 1, 2, 3] bcast_S8x1x1x1_S8x768x16x16_0_1_2_3 (shapeCast _ g shapeCasts_S8x1_S8x1x1x1)) y)
    shapeCasts_S8x768x16x16_S4x2x768x16x16

/-- The larger of the two gated branches. -/
def rOut (d : FVec Ideal S4x2x768x16x16 .f32) : FVec Ideal S4x768x16x16 .f32 :=
  maximumf (shapeCast _ (extractStridedSlice S4x1x768x16x16 ![0, 0, 0, 0, 0] d slices_S4x2x768x16x16_S4x1x768x16x16_0_0_0_0_0) shapeCasts_S4x1x768x16x16_S4x768x16x16)
    (shapeCast _ (extractStridedSlice S4x1x768x16x16 ![0, 1, 0, 0, 0] d slices_S4x2x768x16x16_S4x1x768x16x16_0_1_0_0_0) shapeCasts_S4x1x768x16x16_S4x768x16x16)

/-- The stacked branches of the arguments. -/
def rBoth (x : FVec Ideal S4x768x32x32 .f32) (p : FVec Ideal S1 .f32) : FVec Ideal S8x768x16x16 .f32 :=
  rCat (rMix (rW p) (rTop x) (rAvg x)) (rMix (rW p) (rAvg x) (rTop x))

/-- These stages one after another. -/
def refOut (m : (ℓ : Loc nD τ sig) → Buf (Elt Ideal) ℓ) (c : Dev nD) : FVec Ideal S4x768x16x16 .f32 :=
  rOut (rGated (rGate (rScore (rHid (rMean (rBoth (m ((c.tc : Thread nD τ).loc main_arg0)) (m ((c.tc : Thread nD τ).loc main_arg1))))
      (m ((c.tc : Thread nD τ).loc main_arg6)) (m ((c.tc : Thread nD τ).loc main_arg7))) (m ((c.tc : Thread nD τ).loc main_arg8)) (m ((c.tc : Thread nD τ).loc main_arg9))))
    (rBoth (m ((c.tc : Thread nD τ).loc main_arg0)) (m ((c.tc : Thread nD τ).loc main_arg1))))

/-- The pooled and mixed branches, stacked, are those of the arguments. -/
theorem both_eq (m : (ℓ : Loc nD τ sig) → Buf (Elt Ideal) ℓ) (c : Dev nD) :
    Value.res_main_v24 (StableHlo.launchContents m c) = rBoth (m ((c.tc : Thread nD τ).loc main_arg0)) (m ((c.tc : Thread nD τ).loc main_arg1)) := rfl

/-- The gated branches are those of the arguments. -/
theorem gated_eq (m : (ℓ : Loc nD τ sig) → Buf (Elt Ideal) ℓ) (c : Dev nD) :
    Value.res_main_v113 (StableHlo.launchContents m c) = rGated (rGate (rScore (rHid (rMean (rBoth (m ((c.tc : Thread nD τ).loc main_arg0)) (m ((c.tc : Thread nD τ).loc main_arg1))))
      (m ((c.tc : Thread nD τ).loc main_arg6)) (m ((c.tc : Thread nD τ).loc main_arg7))) (m ((c.tc : Thread nD τ).loc main_arg8)) (m ((c.tc : Thread nD τ).loc main_arg9))))
    (rBoth (m ((c.tc : Thread nD τ).loc main_arg0)) (m ((c.tc : Thread nD τ).loc main_arg1))) := by
  unfold Value.res_main_v113
  rw [both_eq]
  rfl

/-- The reference ends with these stages' value; the attention, which nothing reads, leaves it alone. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = refOut m c :=
  (θ_run defs _ _).mono (fun r h c => (h c).1.trans (by rw [gated_eq]; rfl)) (Value.run (F := Ideal) m ρ)

/-! ## The stages at an index -/

theorem rTop_apply (x : FVec Ideal S4x768x32x32 .f32) (b : Fin 4) (ch : Fin 768) (i j : Fin 16) :
    rTop x (ix4 b ch i j) = Spec.top (fun r s => x (ix4 b ch r s)) i j := by
  unfold rTop
  rw [window_apply]
  pointwise [Spec.top, Spec.px]
  rw [Spec.lit_bot, max_eq_right bot_le, max_assoc]

theorem rAvg_apply (x : FVec Ideal S4x768x32x32 .f32) (b : Fin 4) (ch : Fin 768) (i j : Fin 16) :
    rAvg x (ix4 b ch i j) = Spec.avg (fun r s => x (ix4 b ch r s)) i j := by
  have h : Host.reduceWindowAdd ![1, 1, 2, 2] ![1, 1, 2, 2] ![0, 0, 0, 0] ![0, 0, 0, 0] x (broadcastInDim S_ ![] bcast_S_S_ (constant S_ .f32 0x00000000#32))
      reduceWindows_S4x768x32x32_S4x768x16x16_w1s1p0_0_w1s1p0_0_w2s2p0_0_w2s2p0_0 h_S_ (ix4 b ch i j) = _ :=
    window_apply (fun u v : EReal => u + v) x (fun _ => (broadcastInDim S_ ![] bcast_S_S_ (constant S_ .f32 0x00000000#32) : FVec Ideal S_ .f32) (Shape.Idx.first h_S_))
      reduceWindows_S4x768x32x32_S4x768x16x16_w1s1p0_0_w1s1p0_0_w2s2p0_0_w2s2p0_0 h_S_ b ch i j
  have h0 : (broadcastInDim S_ ![] bcast_S_S_ (constant S_ .f32 0x00000000#32) : FVec Ideal S_ .f32) (Shape.Idx.first h_S_) = (0 : EReal) := Ideal.ofBits_zero_f32
  dsimp only at h
  rw [h0, zero_add] at h
  have e : rAvg x (ix4 b ch i j) = Ideal.div (Host.reduceWindowAdd ![1, 1, 2, 2] ![1, 1, 2, 2] ![0, 0, 0, 0] ![0, 0, 0, 0] x
      (broadcastInDim S_ ![] bcast_S_S_ (constant S_ .f32 0x00000000#32))
      reduceWindows_S4x768x32x32_S4x768x16x16_w1s1p0_0_w1s1p0_0_w2s2p0_0_w2s2p0_0 h_S_ (ix4 b ch i j)) (Ideal.ofBits .f32 0x40800000#32) := rfl
  rw [e, h, Spec.lit_four, Ideal.div_coe (by norm_num)]
  rfl

theorem rW_apply (p : FVec Ideal S1 .f32) : rW p ix0 = Spec.sigmoid (p (ix1 0)) := by
  pointwise [rW, Spec.sigmoid]

theorem rMix_apply (w : FVec Ideal S_ .f32) (u v : FVec Ideal S4x768x16x16 .f32) (b : Fin 4) (ch : Fin 768) (i j : Fin 16) :
    rMix w u v (ix4 b ch i j) = Spec.mix (w ix0) (u (ix4 b ch i j)) (v (ix4 b ch i j)) := by
  pointwise [rMix, Spec.mix]

/-- Rows `2b` and `2b + 1` of the stack are the two branches of sample `b`. -/
theorem rCat_apply (u v : FVec Ideal S4x768x16x16 .f32) (b : Fin 4) (k : Fin 2) (ch : Fin 768) (i j : Fin 16) :
    rCat u v (ix4 ⟨2 * b.val + k.val, by omega⟩ ch i j) = if k = 0 then u (ix4 b ch i j) else v (ix4 b ch i j) := by
  fin_vals k with hk
  · pointwise [rCat]
    rw [dif_pos (by omega), if_pos (Fin.ext hk)]
  · pointwise [rCat]
    rw [dif_neg (by omega), if_neg fun h => by rw [h] at hk; exact absurd hk (by decide)]

theorem rMean_apply (y : FVec Ideal S8x768x16x16 .f32) (n : Fin 8) (ch : Fin 768) :
    rMean y (ix2 n ch) = Spec.mean fun i j => y (ix4 n ch i j) := by
  pointwise [rMean, Spec.mean]
  rw [Spec.lit_256, Ideal.div_coe (by norm_num)]

theorem rHid_apply (a : FVec Ideal S8x768 .f32) (w1 : FVec Ideal S384x768 .f32) (b1 : FVec Ideal S384 .f32) (n : Fin 8) (o : Fin 384) :
    rHid a w1 b1 (ix2 n o) = max ((∑ ch, a (ix2 n ch) * w1 (ix2 o ch)) + b1 (ix1 o)) 0 := by
  pointwise [rHid]

theorem rScore_apply (h : FVec Ideal S8x384 .f32) (w2 : FVec Ideal S1x384 .f32) (b2 : FVec Ideal S1 .f32) (n : Fin 8) :
    rScore h w2 b2 (ix2 n 0) = (∑ o, h (ix2 n o) * w2 (ix2 0 o)) + b2 (ix1 0) := by
  pointwise [rScore]

theorem rGate_apply (z : FVec Ideal S8x1 .f32) (n : Fin 8) : rGate z (ix2 n 0) = Spec.gate (z (ix2 n 0)) := by
  have h := Spec.half_lt_sigmoid (z (ix2 n 0))
  unfold Spec.sigmoid at h
  pointwise [rGate, Spec.gate]
  rw [Spec.lit_half]
  by_cases hz : 0 < z (ix2 n 0)
  · rw [if_pos hz, decide_eq_true (h.mpr hz)]
    show (((BitVec.ofBool true).toNat : ℝ) : EReal) = 1
    simp
  · rw [if_neg hz, decide_eq_false (fun hh => hz (h.mp hh))]
    show (((BitVec.ofBool false).toNat : ℝ) : EReal) = 0
    simp

theorem rGated_apply (g : FVec Ideal S8x1 .f32) (y : FVec Ideal S8x768x16x16 .f32) (b : Fin 4) (k : Fin 2) (ch : Fin 768) (i j : Fin 16) :
    rGated g y (ix5 b k ch i j) = g (ix2 ⟨2 * b.val + k.val, by omega⟩ 0) * y (ix4 ⟨2 * b.val + k.val, by omega⟩ ch i j) := by
  have e : b.val * 2 + k.val = 2 * b.val + k.val := by omega
  pointwise [rGated]
  simp only [e]

theorem rOut_apply (d : FVec Ideal S4x2x768x16x16 .f32) (b : Fin 4) (ch : Fin 768) (i j : Fin 16) :
    rOut d (ix4 b ch i j) = max (d (ix5 b 0 ch i j)) (d (ix5 b 1 ch i j)) := by
  pointwise [rOut]

/-! ## The reference's result -/

/-- The stacked branches, from the arguments. -/
theorem rBoth_apply (x : FVec Ideal S4x768x32x32 .f32) (p : FVec Ideal S1 .f32) (b : Fin 4) (k : Fin 2) (ch : Fin 768) (i j : Fin 16) :
    rBoth x p (ix4 ⟨2 * b.val + k.val, by omega⟩ ch i j)
      = if k = 0 then Spec.branch1 (Spec.sigmoid (p (ix1 0))) (fun r s => x (ix4 b ch r s)) i j
        else Spec.branch2 (Spec.sigmoid (p (ix1 0))) (fun r s => x (ix4 b ch r s)) i j := by
  unfold rBoth
  rw [rCat_apply, rMix_apply, rMix_apply, rW_apply, rTop_apply, rAvg_apply]
  rfl

/-- The gate of row `n` of the stack, from that row. -/
theorem rGate_row (y : FVec Ideal S8x768x16x16 .f32) (w1 : FVec Ideal S384x768 .f32) (b1 : FVec Ideal S384 .f32) (w2 : FVec Ideal S1x384 .f32)
    (b2 : FVec Ideal S1 .f32) (n : Fin 8) :
    rGate (rScore (rHid (rMean y) w1 b1) w2 b2) (ix2 n 0)
      = Spec.gateOf (fun ch i j => y (ix4 n ch i j)) (fun o ch => w1 (ix2 o ch)) (fun o => b1 (ix1 o)) (fun o => w2 (ix2 0 o)) (b2 (ix1 0)) := by
  rw [rGate_apply, rScore_apply]
  simp only [rHid_apply, rMean_apply]
  rfl

/-- The reference's result, element by element. -/
theorem res_apply (m : (ℓ : Loc nD τ sig) → Buf (Elt Ideal) ℓ) (c : Dev nD) (b : Fin 4) (ch : Fin 768) (i j : Fin 16) :
    refOut m c (ix4 b ch i j)
      = Spec.result (fun k r s => (m ((c.tc : Thread nD τ).loc main_arg0) : FVec Ideal S4x768x32x32 .f32) (ix4 b k r s))
          ((m ((c.tc : Thread nD τ).loc main_arg1) : FVec Ideal S1 .f32) (ix1 0))
          (fun o k => (m ((c.tc : Thread nD τ).loc main_arg6) : FVec Ideal S384x768 .f32) (ix2 o k))
          (fun o => (m ((c.tc : Thread nD τ).loc main_arg7) : FVec Ideal S384 .f32) (ix1 o))
          (fun o => (m ((c.tc : Thread nD τ).loc main_arg8) : FVec Ideal S1x384 .f32) (ix2 0 o))
          ((m ((c.tc : Thread nD τ).loc main_arg9) : FVec Ideal S1 .f32) (ix1 0)) ch i j := by
  rw [refOut, rOut_apply, rGated_apply, rGated_apply, rGate_row, rGate_row]
  simp only [rBoth_apply]
  simp only [if_true, if_neg (show ¬ (1 : Fin 2) = 0 by decide)]
  unfold Spec.result
  rw [mul_comm, mul_comm (Spec.gateOf _ _ _ _ _)]

end Cert.ReferenceIdeal.Hand

end
-- ==== Proof.lean ====
/- The claims about the kernel and its reference, assembled from the modules under Proof/. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KerRun
public import proofs.«01_k».proof.Proof.SameText
public import proofs.«01_k».proof.Proof.RefValue
public import Idealize.ShloMosaic.Adequacy
public import Idealize.ShloMosaic.Init

@[expose] public section

noncomputable section

namespace Cert.Proof

open Idealize.ShloMosaic Idealize.SL.Sem

/-- The kernel, with float operations opaque, runs, keeps its arguments and leaves every counter at zero. -/
theorem frame_kernel : Cert.quiescent_Kernel := Cert.SameText.frame

/-- The same of the kernel over the extended reals. -/
theorem frame_ideal : Cert.quiescent_KernelIdeal := fun m ρ _ => Cert.KernelIdeal.Hand.frame m ρ

/-- The reference runs, keeps its arguments, and has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments kernel and reference end with the same result. -/
theorem algebraic : Cert.algebraic_KernelIdeal_ReferenceIdeal := by
  intro m g m' g' _ hagree
  refine ⟨fun c => Cert.KernelIdeal.Hand.resArr m c,
    (θ_run Cert.KernelIdeal.defs _ _).mono (fun r h c => ⟨h.2 c, h.1.1 c⟩)
      (θ_run_and (Cert.KernelIdeal.Hand.frame m g) (Cert.KernelIdeal.Hand.run_value m g)),
    (θ_run Cert.ReferenceIdeal.defs _ _).mono (fun r h c => ⟨(h.1 c).trans (funext fun y => ?_), (h.2 c).2⟩)
      (θ_run_and (Cert.ReferenceIdeal.Hand.run_out m' g') (Cert.ReferenceIdeal.Value.run (F := Ideal) m' g'))⟩
  obtain ⟨h0, h1, -, -, -, -, h6, h7, h8, h9⟩ := hagree c
  have e : y = ix4 (y 0) (y 1) (y 2) (y 3) := by
    refine funext fun a => ?_
    match a with
    | ⟨0, _⟩ => rfl
    | ⟨1, _⟩ => rfl
    | ⟨2, _⟩ => rfl
    | ⟨3, _⟩ => rfl
  refine (congrArg (Cert.ReferenceIdeal.Hand.refOut m' c) e).trans
    ((Cert.ReferenceIdeal.Hand.res_apply m' c (y 0) (y 1) (y 2) (y 3)).trans ?_)
  rw [h0, h1, h6, h7, h8, h9]
  rfl

theorem claim : Cert.Claim :=
  ⟨Cert.Kernel.Gen.facts, Cert.KernelIdeal.Gen.facts, Cert.ReferenceIdeal.Gen.facts,
    frame_kernel, frame_ideal, frame_ref, trivial, algebraic⟩

end Cert.Proof

end
